-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_on_grid [hPre_on_grid : Cert.Pre_on_grid.Facts] (m : (ℓ : Loc Cert.KernelIdeal.nD Cert.KernelIdeal.τ Cert.KernelIdeal.sig) → Buf (Elt Ideal) ℓ) : Prop :=
  ∀ c : Dev Cert.KernelIdeal.nD,
    (Cert.Pre_on_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_on_grid [hPre_on_grid : Cert.Pre_on_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_on_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_on_grid [hKernelIdeal : Cert.KernelIdeal.Facts] [hPre_on_grid : Cert.Pre_on_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_on_grid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_on_grid [hReferenceIdeal : Cert.ReferenceIdeal.Facts] [hPre_on_grid : Cert.Pre_on_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_on_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_on_grid [hKernelIdeal : Cert.KernelIdeal.Facts] [hReferenceIdeal : Cert.ReferenceIdeal.Facts] [hPre_on_grid : Cert.Pre_on_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_on_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_on_grid : Cert.Pre_on_grid.Facts),
    quiescent_Kernel (hKernel := hKernel)
    ∧ quiescent_KernelIdeal (hKernelIdeal := hKernelIdeal)
    ∧ quiescent_KernelIdeal_pre_on_grid (hKernelIdeal := hKernelIdeal) (hPre_on_grid := hPre_on_grid)
    ∧ quiescent_ReferenceIdeal (hReferenceIdeal := hReferenceIdeal)
    ∧ quiescent_ReferenceIdeal_pre_on_grid (hReferenceIdeal := hReferenceIdeal) (hPre_on_grid := hPre_on_grid)
    ∧ preserves_Kernel_KernelIdeal
    ∧ algebraic_KernelIdeal_ReferenceIdeal_pre_on_grid (hKernelIdeal := hKernelIdeal) (hReferenceIdeal := hReferenceIdeal) (hPre_on_grid := hPre_on_grid)
-- ==== Pre_on_grid.lean ====
abbrev S16x2048x512 : Shape := ⟨3, ![16, 2048, 512]⟩
abbrev S16x2048 : Shape := ⟨2, ![16, 2048]⟩
abbrev S255 : Shape := ⟨1, ![255]⟩
abbrev S256x512 : Shape := ⟨2, ![256, 512]⟩
abbrev S_ : Shape := ⟨0, ![]⟩

class Facts : Prop where
  bcast_S_S255 : S_.BroadcastsInDim S255 (![] : Fin 0 → Fin S255.rank)
  bcast_S_S16x2048 : S_.BroadcastsInDim S16x2048 (![] : Fin 0 → Fin S16x2048.rank)
  reducesTo_S255_S_d0 : S255.ReducesTo [0] S_
  h_S_ : 0 < S_.numel
  reducesTo_S16x2048_S_d0_1 : S16x2048.ReducesTo [0, 1] S_

variable [Facts]

def fn_part2 {F : FTy → Type} [FloatOps F] (main_v26 : IVec S16x2048 1) (main_v33 : IVec S_ 1) (main_c_11 : IVec S_ 1) : IVec S_ 1 :=
  let main_v34 : IVec S_ 1 := (fun x v => Host.reduce IntOp.andi x v reducesTo_S16x2048_S_d0_1 h_S_) main_v26 main_c_11
  let main_v35 : IVec S_ 1 := andi main_v33 main_v34
  main_v35

def fn_part1 {F : FTy → Type} [FloatOps F] (main_arg1 : FVec F S16x2048 .f32) (main_arg2 : FVec F S16x2048 .f32) (main_v3 : FVec F S255 .f32) (main_v9 : IVec S255 1) (main_v17 : FVec F S255 .f32) : IVec S_ 1 :=
  let main_v18 : FVec F S255 .f32 := subf main_v17 main_v3
  let main_v19 : FVec F S255 .f32 := Host.absf main_v18
  let main_cst_5 : FVec F S_ .f32 := constant S_ .f32 0x3F000000#32
  let main_v20 : FVec F S255 .f32 := broadcastInDim S255 ![] bcast_S_S255 main_cst_5
  let main_v21 : IVec S255 1 := cmpf .ole main_v19 main_v20
  let main_cst_6 : FVec F S_ .f32 := constant S_ .f32 0x00000000#32
  let main_v22 : FVec F S16x2048 .f32 := broadcastInDim S16x2048 ![] bcast_S_S16x2048 main_cst_6
  let main_v23 : IVec S16x2048 1 := cmpf .ole main_arg2 main_v22
  let main_cst_7 : FVec F S_ .f32 := constant S_ .f32 0x00000001#32
  let main_v24 : FVec F S16x2048 .f32 := broadcastInDim S16x2048 ![] bcast_S_S16x2048 main_cst_7
  let main_v25 : IVec S16x2048 1 := cmpf .oge main_arg2 main_v24
  let main_v26 : IVec S16x2048 1 := ori main_v23 main_v25
  let main_c : IVec S_ 1 := constantI S_ 1 1#1
  let main_v27 : IVec S_ 1 := (fun x v => Host.reduce IntOp.andi x v reducesTo_S255_S_d0 h_S_) main_v9 main_c
  let main_c_8 : IVec S_ 1 := constantI S_ 1 1#1
  let main_v28 : IVec S_ 1 := (fun x v => Host.reduce IntOp.andi x v reducesTo_S255_S_d0 h_S_) main_v21 main_c_8
  let main_v29 : IVec S_ 1 := andi main_v27 main_v28
  let main_cst_9 : FVec F S_ .f32 := constant S_ .f32 0xCB000000#32
  let main_v30 : FVec F S16x2048 .f32 := broadcastInDim S16x2048 ![] bcast_S_S16x2048 main_cst_9
  let main_v31 : IVec S16x2048 1 := cmpf .une main_arg1 main_v30
  let main_c_10 : IVec S_ 1 := constantI S_ 1 1#1
  let main_v32 : IVec S_ 1 := (fun x v => Host.reduce IntOp.andi x v reducesTo_S16x2048_S_d0_1 h_S_) main_v31 main_c_10
  let main_v33 : IVec S_ 1 := andi main_v29 main_v32
  let main_c_11 : IVec S_ 1 := constantI S_ 1 1#1
  fn_part2 (F := F) main_v26 main_v33 main_c_11

def fn {F : FTy → Type} [FloatOps F] (main_arg0 : FVec F S16x2048x512 .f32) (main_arg1 : FVec F S16x2048 .f32) (main_arg2 : FVec F S16x2048 .f32) (main_arg3 : FVec F S255 .f32) (main_arg4 : FVec F S255 .f32) (main_arg5 : FVec F S256x512 .f32) (main_arg6 : FVec F S256x512 .f32) : IVec S_ 1 :=
  let main_v0 : IVec S255 32 := iotaInDim S255 32 0
  let main_v1 : FVec F S255 .f32 := sitofp .f32 main_v0
  let main_cst : FVec F S_ .f32 := constant S_ .f32 0x3F800000#32
  let main_v2 : FVec F S255 .f32 := broadcastInDim S255 ![] bcast_S_S255 main_cst
  let main_v3 : FVec F S255 .f32 := addf main_v1 main_v2
  let main_cst_0 : FVec F S_ .f32 := constant S_ .f32 0x43800000#32
  let main_v4 : FVec F S255 .f32 := broadcastInDim S255 ![] bcast_S_S255 main_cst_0
  let main_v5 : FVec F S255 .f32 := mulf main_arg3 main_v4
  let main_v6 : FVec F S255 .f32 := subf main_v5 main_v3
  let main_v7 : FVec F S255 .f32 := Host.absf main_v6
  let main_cst_1 : FVec F S_ .f32 := constant S_ .f32 0x3F000000#32
  let main_v8 : FVec F S255 .f32 := broadcastInDim S255 ![] bcast_S_S255 main_cst_1
  let main_v9 : IVec S255 1 := cmpf .ole main_v7 main_v8
  let main_v10 : FVec F S255 .f32 := Host.log main_arg4
  let main_cst_2 : FVec F S_ .f32 := constant S_ .f32 0x41200000#32
  let main_v11 : FVec F S_ .f32 := Host.log main_cst_2
  let main_v12 : FVec F S255 .f32 := broadcastInDim S255 ![] bcast_S_S255 main_v11
  let main_v13 : FVec F S255 .f32 := Host.divf main_v10 main_v12
  let main_cst_3 : FVec F S_ .f32 := constant S_ .f32 0x3F800000#32
  let main_v14 : FVec F S255 .f32 := broadcastInDim S255 ![] bcast_S_S255 main_cst_3
  let main_v15 : FVec F S255 .f32 := addf main_v13 main_v14
  let main_cst_4 : FVec F S_ .f32 := constant S_ .f32 0x43800000#32
  let main_v16 : FVec F S255 .f32 := broadcastInDim S255 ![] bcast_S_S255 main_cst_4
  let main_v17 : FVec F S255 .f32 := mulf main_v15 main_v16
  fn_part1 (F := F) main_arg1 main_arg2 main_v3 main_v9 main_v17
-- ==== Kernel.lean ====
abbrev S16x2048x512 : Shape := ⟨3, ![16, 2048, 512]⟩
abbrev S16x2048 : Shape := ⟨2, ![16, 2048]⟩
abbrev S255 : Shape := ⟨1, ![255]⟩
abbrev S256x512 : Shape := ⟨2, ![256, 512]⟩
abbrev S2x8x16x128 : Shape := ⟨4, ![2, 8, 16, 128]⟩
abbrev S2x16x8x128 : Shape := ⟨4, ![2, 16, 8, 128]⟩
abbrev S16x16x128 : Shape := ⟨3, ![16, 16, 128]⟩
abbrev S8x128 : Shape := ⟨2, ![8, 128]⟩
abbrev S_ : Shape := ⟨0, ![]⟩
abbrev S1x1x8x128 : Shape := ⟨4, ![1, 1, 8, 128]⟩
abbrev S16 : Shape := ⟨1, ![16]⟩
abbrev S1x16 : Shape := ⟨2, ![1, 16]⟩
abbrev S1x128 : Shape := ⟨2, ![1, 128]⟩
abbrev S128 : Shape := ⟨1, ![128]⟩
abbrev S1x1x128 : Shape := ⟨3, ![1, 1, 128]⟩
abbrev S2x16x128 : Shape := ⟨3, ![2, 16, 128]⟩
abbrev S2x2048x512 : Shape := ⟨3, ![2, 2048, 512]⟩
abbrev S512x512 : Shape := ⟨2, ![512, 512]⟩
abbrev S1x4096 : Shape := ⟨2, ![1, 4096]⟩
abbrev S512x4096 : Shape := ⟨2, ![512, 4096]⟩
abbrev S4096x512 : Shape := ⟨2, ![4096, 512]⟩

abbrev nBuf : Table → Nat
  | .hbm => 14
  | .local .tc .vmem => 11
  | .local .scVector .vmem => 6
  | _ => 0

abbrev bufTy : (tb : Table) → Fin (nBuf tb) → BufTy
  | .hbm, ⟨0, _⟩ => ⟨S16x2048x512, .f32⟩
  | .hbm, ⟨1, _⟩ => ⟨S16x2048, .f32⟩
  | .hbm, ⟨2, _⟩ => ⟨S16x2048, .f32⟩
  | .hbm, ⟨3, _⟩ => ⟨S255, .f32⟩
  | .hbm, ⟨4, _⟩ => ⟨S255, .f32⟩
  | .hbm, ⟨5, _⟩ => ⟨S256x512, .f32⟩
  | .hbm, ⟨6, _⟩ => ⟨S256x512, .f32⟩
  | .hbm, ⟨7, _⟩ => ⟨S2x8x16x128, .f32⟩
  | .hbm, ⟨8, _⟩ => ⟨S2x16x8x128, .f32⟩
  | .hbm, ⟨9, _⟩ => ⟨S2x8x16x128, .f32⟩
  | .hbm, ⟨10, _⟩ => ⟨S2x16x8x128, .f32⟩
  | .hbm, ⟨11, _⟩ => ⟨S16x16x128, .i32⟩
  | .hbm, ⟨12, _⟩ => ⟨S16x16x128, .i32⟩
  | .hbm, ⟨13, _⟩ => ⟨S16x2048x512, .f32⟩
  | .local .tc .vmem, ⟨0, _⟩ => ⟨S2x16x128, .i32⟩
  | .local .tc .vmem, ⟨1, _⟩ => ⟨S2x16x128, .i32⟩
  | .local .tc .vmem, ⟨2, _⟩ => ⟨S2x16x128, .i32⟩
  | .local .tc .vmem, ⟨3, _⟩ => ⟨S2x16x128, .i32⟩
  | .local .tc .vmem, ⟨4, _⟩ => ⟨S2x2048x512, .f32⟩
  | .local .tc .vmem, ⟨5, _⟩ => ⟨S2x2048x512, .f32⟩
  | .local .tc .vmem, ⟨6, _⟩ => ⟨S256x512, .f32⟩
  | .local .tc .vmem, ⟨7, _⟩ => ⟨S256x512, .f32⟩
  | .local .tc .vmem, ⟨8, _⟩ => ⟨S2x2048x512, .f32⟩
  | .local .tc .vmem, ⟨9, _⟩ => ⟨S2x2048x512, .f32⟩
  | .local .tc .vmem, ⟨10, _⟩ => ⟨S512x512, .bf16⟩
  | .local .scVector .vmem, ⟨0, _⟩ => ⟨S8x128, .f32⟩
  | .local .scVector .vmem, ⟨1, _⟩ => ⟨S8x128, .f32⟩
  | .local .scVector .vmem, ⟨2, _⟩ => ⟨S8x128, .i32⟩
  | .local .scVector .vmem, ⟨3, _⟩ => ⟨S8x128, .i32⟩
  | .local .scVector .vmem, ⟨4, _⟩ => ⟨S255, .f32⟩
  | .local .scVector .vmem, ⟨5, _⟩ => ⟨S255, .f32⟩
  | _, _ => ⟨S16x2048x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v1_scv : Ref sig .scVector := ⟨.hbm, 8, rfl⟩
abbrev main_v3_scv : Ref sig .scVector := ⟨.hbm, 10, rfl⟩
abbrev main_arg3_scv : Ref sig .scVector := ⟨.hbm, 3, rfl⟩
abbrev main_arg4_scv : Ref sig .scVector := ⟨.hbm, 4, rfl⟩
abbrev main_v4_0_scv : Ref sig .scVector := ⟨.hbm, 11, rfl⟩
abbrev main_v4_1_scv : Ref sig .scVector := ⟨.hbm, 12, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg5_1 : Ref sig .tc := ⟨.vmem, 9, rfl⟩
abbrev cc1_scratch0 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem5_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, v28.toNat, 0, 0]
@[reducible] def k0_t1_loop : Scf.Loop 32 :=
  let c0_i32_27 : BitVec 32 := 0#32
  let c32_i32 : BitVec 32 := 32#32
  let v45 : BitVec 32 := Scalar.addi c0_i32_27 c32_i32
  let c1_i32_28 : BitVec 32 := 1#32
  ⟨c0_i32_27, v45, c1_i32_28⟩
def k0_off2 (k0_t1 : Fin k0_t1_loop.trips) : Fin 2 → Nat :=
  let c0_i32_27 : BitVec 32 := 0#32
  let c1_i32_28 : BitVec 32 := 1#32
  let arg17 : BitVec 32 := Scf.iv c0_i32_27 c1_i32_28 k0_t1
  let c0_i32_217 : BitVec 32 := 0#32
  let v336 : BitVec 1 := Scalar.cmpi .sgt arg17 c0_i32_217
  let v337 : BitVec 32 := Scalar.extui v336
  let c0_i32_218 : BitVec 32 := 0#32
  let v338 : BitVec 1 := Scalar.cmpi .slt arg17 c0_i32_218
  let v339 : BitVec 32 := Scalar.extui v338
  let v340 : BitVec 32 := Scalar.subi v337 v339
  let c4_i32_216 : BitVec 32 := 4#32
  let c0_i32_219 : BitVec 32 := 0#32
  let v341 : BitVec 1 := Scalar.cmpi .sgt c4_i32_216 c0_i32_219
  let v342 : BitVec 32 := Scalar.extui v341
  let c0_i32_220 : BitVec 32 := 0#32
  let v343 : BitVec 1 := Scalar.cmpi .slt c4_i32_216 c0_i32_220
  let v344 : BitVec 32 := Scalar.extui v343
  let v345 : BitVec 32 := Scalar.subi v342 v344
  let v346 : BitVec 1 := Scalar.cmpi .ne v340 v345
  let v347 : BitVec 32 := Scalar.remsi arg17 c4_i32_216
  let c0_i32_221 : BitVec 32 := 0#32
  let v348 : BitVec 1 := Scalar.cmpi .ne v347 c0_i32_221
  let v349 : BitVec 1 := Scalar.andi v346 v348
  let v335 : BitVec 32 := Scalar.divsi arg17 c4_i32_216
  let c1_i32_222 : BitVec 32 := 1#32
  let v350 : BitVec 32 := Scalar.subi v335 c1_i32_222
  let v351 : BitVec 32 := Scalar.select v349 v350 v335
  let v364 : Index := Scalar.indexCast v351
  let c4_i32_223 : BitVec 32 := 4#32
  let c0_i32_224 : BitVec 32 := 0#32
  let v352 : BitVec 1 := Scalar.cmpi .eq c4_i32_223 c0_i32_224
  let c1_i32_225 : BitVec 32 := 1#32
  let v353 : BitVec 32 := Scalar.select v352 c1_i32_225 c4_i32_223
  let v354 : BitVec 32 := Scalar.remsi arg17 v353
  let c0_i32_227 : BitVec 32 := 0#32
  let v356 : BitVec 1 := Scalar.cmpi .slt v354 c0_i32_227
  let c0_i32_228 : BitVec 32 := 0#32
  let v357 : BitVec 1 := Scalar.cmpi .slt v353 c0_i32_228
  let v358 : BitVec 1 := Scalar.xori v356 v357
  let c0_i32_226 : BitVec 32 := 0#32
  let v355 : BitVec 1 := Scalar.cmpi .ne v354 c0_i32_226
  let v359 : BitVec 1 := Scalar.andi v358 v355
  let v360 : BitVec 32 := Scalar.addi v354 v353
  let v361 : BitVec 32 := Scalar.select v359 v360 v354
  let c32_i32_229 : BitVec 32 := 32#32
  let v362 : BitVec 32 := Scalar.muli v361 c32_i32_229
  let c0_i32_230 : BitVec 32 := 0#32
  let v363 : BitVec 32 := Scalar.addi v362 c0_i32_230
  let v365 : Index := Scalar.indexCast v363
  ![v364.toNat, v365.toNat]

def k0_chk1 (v383 : IVec S16 32) : Prop :=
  (∀ a x, ((![v383] : Fin 1 → IVec S16 32) a x).toNat < S255.size a)
theorem k0_idx1_inb : ∀ (v383 : IVec S16 32) (k0_hw1 : k0_chk1 v383), ∀ a x, ((![v383] : Fin 1 → IVec S16 32) a x).toNat < S255.size a := fun v383 k0_hw1 => k0_hw1

def k0_chk2 (v386 : IVec S16 32) : Prop :=
  (∀ a x, ((![v386] : Fin 1 → IVec S16 32) a x).toNat < S255.size a)
theorem k0_idx2_inb : ∀ (v386 : IVec S16 32) (k0_hw2 : k0_chk2 v386), ∀ a x, ((![v386] : Fin 1 → IVec S16 32) a x).toNat < S255.size a := fun v386 k0_hw2 => k0_hw2
def k0_off3 (k0_t1 : Fin k0_t1_loop.trips) : Fin 2 → Nat :=
  let c0_i32_27 : BitVec 32 := 0#32
  let c1_i32_28 : BitVec 32 := 1#32
  let arg17 : BitVec 32 := Scf.iv c0_i32_27 c1_i32_28 k0_t1
  let c0_i32_217 : BitVec 32 := 0#32
  let v336 : BitVec 1 := Scalar.cmpi .sgt arg17 c0_i32_217
  let v337 : BitVec 32 := Scalar.extui v336
  let c0_i32_218 : BitVec 32 := 0#32
  let v338 : BitVec 1 := Scalar.cmpi .slt arg17 c0_i32_218
  let v339 : BitVec 32 := Scalar.extui v338
  let v340 : BitVec 32 := Scalar.subi v337 v339
  let c4_i32_216 : BitVec 32 := 4#32
  let c0_i32_219 : BitVec 32 := 0#32
  let v341 : BitVec 1 := Scalar.cmpi .sgt c4_i32_216 c0_i32_219
  let v342 : BitVec 32 := Scalar.extui v341
  let c0_i32_220 : BitVec 32 := 0#32
  let v343 : BitVec 1 := Scalar.cmpi .slt c4_i32_216 c0_i32_220
  let v344 : BitVec 32 := Scalar.extui v343
  let v345 : BitVec 32 := Scalar.subi v342 v344
  let v346 : BitVec 1 := Scalar.cmpi .ne v340 v345
  let v347 : BitVec 32 := Scalar.remsi arg17 c4_i32_216
  let c0_i32_221 : BitVec 32 := 0#32
  let v348 : BitVec 1 := Scalar.cmpi .ne v347 c0_i32_221
  let v349 : BitVec 1 := Scalar.andi v346 v348
  let v335 : BitVec 32 := Scalar.divsi arg17 c4_i32_216
  let c1_i32_222 : BitVec 32 := 1#32
  let v350 : BitVec 32 := Scalar.subi v335 c1_i32_222
  let v351 : BitVec 32 := Scalar.select v349 v350 v335
  let v402 : Index := Scalar.indexCast v351
  let c4_i32_223 : BitVec 32 := 4#32
  let c0_i32_224 : BitVec 32 := 0#32
  let v352 : BitVec 1 := Scalar.cmpi .eq c4_i32_223 c0_i32_224
  let c1_i32_225 : BitVec 32 := 1#32
  let v353 : BitVec 32 := Scalar.select v352 c1_i32_225 c4_i32_223
  let v354 : BitVec 32 := Scalar.remsi arg17 v353
  let c0_i32_227 : BitVec 32 := 0#32
  let v356 : BitVec 1 := Scalar.cmpi .slt v354 c0_i32_227
  let c0_i32_228 : BitVec 32 := 0#32
  let v357 : BitVec 1 := Scalar.cmpi .slt v353 c0_i32_228
  let v358 : BitVec 1 := Scalar.xori v356 v357
  let c0_i32_226 : BitVec 32 := 0#32
  let v355 : BitVec 1 := Scalar.cmpi .ne v354 c0_i32_226
  let v359 : BitVec 1 := Scalar.andi v358 v355
  let v360 : BitVec 32 := Scalar.addi v354 v353
  let v361 : BitVec 32 := Scalar.select v359 v360 v354
  let c32_i32_229 : BitVec 32 := 32#32
  let v362 : BitVec 32 := Scalar.muli v361 c32_i32_229
  let c0_i32_230 : BitVec 32 := 0#32
  let v363 : BitVec 32 := Scalar.addi v362 c0_i32_230
  let v403 : Index := Scalar.indexCast v363
  ![v402.toNat, v403.toNat]

def k0_chk3 (v432 : IVec S16 32) : Prop :=
  (∀ a x, ((![v432] : Fin 1 → IVec S16 32) a x).toNat < S255.size a)
theorem k0_idx3_inb : ∀ (v432 : IVec S16 32) (k0_hw3 : k0_chk3 v432), ∀ a x, ((![v432] : Fin 1 → IVec S16 32) a x).toNat < S255.size a := fun v432 k0_hw3 => k0_hw3

def k0_chk4 (v435 : IVec S16 32) : Prop :=
  (∀ a x, ((![v435] : Fin 1 → IVec S16 32) a x).toNat < S255.size a)
theorem k0_idx4_inb : ∀ (v435 : IVec S16 32) (k0_hw4 : k0_chk4 v435), ∀ a x, ((![v435] : Fin 1 → IVec S16 32) a x).toNat < S255.size a := fun v435 k0_hw4 => k0_hw4
def k0_off4 (k0_t1 : Fin k0_t1_loop.trips) (c0_i32_230 : BitVec 32) : Fin 2 → Nat :=
  let c0_i32_27 : BitVec 32 := 0#32
  let c1_i32_28 : BitVec 32 := 1#32
  let arg17 : BitVec 32 := Scf.iv c0_i32_27 c1_i32_28 k0_t1
  let c0_i32_217 : BitVec 32 := 0#32
  let v336 : BitVec 1 := Scalar.cmpi .sgt arg17 c0_i32_217
  let v337 : BitVec 32 := Scalar.extui v336
  let c0_i32_218 : BitVec 32 := 0#32
  let v338 : BitVec 1 := Scalar.cmpi .slt arg17 c0_i32_218
  let v339 : BitVec 32 := Scalar.extui v338
  let v340 : BitVec 32 := Scalar.subi v337 v339
  let c4_i32_216 : BitVec 32 := 4#32
  let c0_i32_219 : BitVec 32 := 0#32
  let v341 : BitVec 1 := Scalar.cmpi .sgt c4_i32_216 c0_i32_219
  let v342 : BitVec 32 := Scalar.extui v341
  let c0_i32_220 : BitVec 32 := 0#32
  let v343 : BitVec 1 := Scalar.cmpi .slt c4_i32_216 c0_i32_220
  let v344 : BitVec 32 := Scalar.extui v343
  let v345 : BitVec 32 := Scalar.subi v342 v344
  let v346 : BitVec 1 := Scalar.cmpi .ne v340 v345
  let v347 : BitVec 32 := Scalar.remsi arg17 c4_i32_216
  let c0_i32_221 : BitVec 32 := 0#32
  let v348 : BitVec 1 := Scalar.cmpi .ne v347 c0_i32_221
  let v349 : BitVec 1 := Scalar.andi v346 v348
  let v335 : BitVec 32 := Scalar.divsi arg17 c4_i32_216
  let c1_i32_222 : BitVec 32 := 1#32
  let v350 : BitVec 32 := Scalar.subi v335 c1_i32_222
  let v351 : BitVec 32 := Scalar.select v349 v350 v335
  let v451 : Index := Scalar.indexCast v351
  let c4_i32_223 : BitVec 32 := 4#32
  let c0_i32_224 : BitVec 32 := 0#32
  let v352 : BitVec 1 := Scalar.cmpi .eq c4_i32_223 c0_i32_224
  let c1_i32_225 : BitVec 32 := 1#32
  let v353 : BitVec 32 := Scalar.select v352 c1_i32_225 c4_i32_223
  let v354 : BitVec 32 := Scalar.remsi arg17 v353
  let c0_i32_227 : BitVec 32 := 0#32
  let v356 : BitVec 1 := Scalar.cmpi .slt v354 c0_i32_227
  let c0_i32_228 : BitVec 32 := 0#32
  let v357 : BitVec 1 := Scalar.cmpi .slt v353 c0_i32_228
  let v358 : BitVec 1 := Scalar.xori v356 v357
  let c0_i32_226 : BitVec 32 := 0#32
  let v355 : BitVec 1 := Scalar.cmpi .ne v354 c0_i32_226
  let v359 : BitVec 1 := Scalar.andi v358 v355
  let v360 : BitVec 32 := Scalar.addi v354 v353
  let v361 : BitVec 32 := Scalar.select v359 v360 v354
  let c32_i32_229 : BitVec 32 := 32#32
  let v362 : BitVec 32 := Scalar.muli v361 c32_i32_229
  let v363 : BitVec 32 := Scalar.addi v362 c0_i32_230
  let v452 : Index := Scalar.indexCast v363
  ![v451.toNat, v452.toNat]

def k0_chk5 (v485 : IVec S16 32) : Prop :=
  (∀ a x, ((![v485] : Fin 1 → IVec S16 32) a x).toNat < S255.size a)
theorem k0_idx5_inb : ∀ (v485 : IVec S16 32) (k0_hw5 : k0_chk5 v485), ∀ a x, ((![v485] : Fin 1 → IVec S16 32) a x).toNat < S255.size a := fun v485 k0_hw5 => k0_hw5

def k0_chk6 (v488 : IVec S16 32) : Prop :=
  (∀ a x, ((![v488] : Fin 1 → IVec S16 32) a x).toNat < S255.size a)
theorem k0_idx6_inb : ∀ (v488 : IVec S16 32) (k0_hw6 : k0_chk6 v488), ∀ a x, ((![v488] : Fin 1 → IVec S16 32) a x).toNat < S255.size a := fun v488 k0_hw6 => k0_hw6
def k0_off5 (k0_t1 : Fin k0_t1_loop.trips) : Fin 2 → Nat :=
  let c0_i32_27 : BitVec 32 := 0#32
  let c1_i32_28 : BitVec 32 := 1#32
  let arg17 : BitVec 32 := Scf.iv c0_i32_27 c1_i32_28 k0_t1
  let c0_i32_217 : BitVec 32 := 0#32
  let v336 : BitVec 1 := Scalar.cmpi .sgt arg17 c0_i32_217
  let v337 : BitVec 32 := Scalar.extui v336
  let c0_i32_218 : BitVec 32 := 0#32
  let v338 : BitVec 1 := Scalar.cmpi .slt arg17 c0_i32_218
  let v339 : BitVec 32 := Scalar.extui v338
  let v340 : BitVec 32 := Scalar.subi v337 v339
  let c4_i32_216 : BitVec 32 := 4#32
  let c0_i32_219 : BitVec 32 := 0#32
  let v341 : BitVec 1 := Scalar.cmpi .sgt c4_i32_216 c0_i32_219
  let v342 : BitVec 32 := Scalar.extui v341
  let c0_i32_220 : BitVec 32 := 0#32
  let v343 : BitVec 1 := Scalar.cmpi .slt c4_i32_216 c0_i32_220
  let v344 : BitVec 32 := Scalar.extui v343
  let v345 : BitVec 32 := Scalar.subi v342 v344
  let v346 : BitVec 1 := Scalar.cmpi .ne v340 v345
  let v347 : BitVec 32 := Scalar.remsi arg17 c4_i32_216
  let c0_i32_221 : BitVec 32 := 0#32
  let v348 : BitVec 1 := Scalar.cmpi .ne v347 c0_i32_221
  let v349 : BitVec 1 := Scalar.andi v346 v348
  let v335 : BitVec 32 := Scalar.divsi arg17 c4_i32_216
  let c1_i32_222 : BitVec 32 := 1#32
  let v350 : BitVec 32 := Scalar.subi v335 c1_i32_222
  let v351 : BitVec 32 := Scalar.select v349 v350 v335
  let v504 : Index := Scalar.indexCast v351
  let c4_i32_252 : BitVec 32 := 4#32
  let c0_i32_253 : BitVec 32 := 0#32
  let v454 : BitVec 1 := Scalar.cmpi .eq c4_i32_252 c0_i32_253
  let c1_i32_254 : BitVec 32 := 1#32
  let v455 : BitVec 32 := Scalar.select v454 c1_i32_254 c4_i32_252
  let v456 : BitVec 32 := Scalar.remsi arg17 v455
  let c0_i32_256 : BitVec 32 := 0#32
  let v458 : BitVec 1 := Scalar.cmpi .slt v456 c0_i32_256
  let c0_i32_257 : BitVec 32 := 0#32
  let v459 : BitVec 1 := Scalar.cmpi .slt v455 c0_i32_257
  let v460 : BitVec 1 := Scalar.xori v458 v459
  let c0_i32_255 : BitVec 32 := 0#32
  let v457 : BitVec 1 := Scalar.cmpi .ne v456 c0_i32_255
  let v461 : BitVec 1 := Scalar.andi v460 v457
  let v462 : BitVec 32 := Scalar.addi v456 v455
  let v463 : BitVec 32 := Scalar.select v461 v462 v456
  let c32_i32_258 : BitVec 32 := 32#32
  let v464 : BitVec 32 := Scalar.muli v463 c32_i32_258
  let c16_i32_259 : BitVec 32 := 16#32
  let v465 : BitVec 32 := Scalar.addi v464 c16_i32_259
  let v505 : Index := Scalar.indexCast v465
  ![v504.toNat, v505.toNat]

def k0_chk7 (v534 : IVec S16 32) : Prop :=
  (∀ a x, ((![v534] : Fin 1 → IVec S16 32) a x).toNat < S255.size a)
theorem k0_idx7_inb : ∀ (v534 : IVec S16 32) (k0_hw7 : k0_chk7 v534), ∀ a x, ((![v534] : Fin 1 → IVec S16 32) a x).toNat < S255.size a := fun v534 k0_hw7 => k0_hw7

def k0_chk8 (v537 : IVec S16 32) : Prop :=
  (∀ a x, ((![v537] : Fin 1 → IVec S16 32) a x).toNat < S255.size a)
theorem k0_idx8_inb : ∀ (v537 : IVec S16 32) (k0_hw8 : k0_chk8 v537), ∀ a x, ((![v537] : Fin 1 → IVec S16 32) a x).toNat < S255.size a := fun v537 k0_hw8 => k0_hw8
def k0_off6 (k0_t1 : Fin k0_t1_loop.trips) : Fin 2 → Nat :=
  let c0_i32_27 : BitVec 32 := 0#32
  let c1_i32_28 : BitVec 32 := 1#32
  let arg17 : BitVec 32 := Scf.iv c0_i32_27 c1_i32_28 k0_t1
  let c0_i32_217 : BitVec 32 := 0#32
  let v336 : BitVec 1 := Scalar.cmpi .sgt arg17 c0_i32_217
  let v337 : BitVec 32 := Scalar.extui v336
  let c0_i32_218 : BitVec 32 := 0#32
  let v338 : BitVec 1 := Scalar.cmpi .slt arg17 c0_i32_218
  let v339 : BitVec 32 := Scalar.extui v338
  let v340 : BitVec 32 := Scalar.subi v337 v339
  let c4_i32_216 : BitVec 32 := 4#32
  let c0_i32_219 : BitVec 32 := 0#32
  let v341 : BitVec 1 := Scalar.cmpi .sgt c4_i32_216 c0_i32_219
  let v342 : BitVec 32 := Scalar.extui v341
  let c0_i32_220 : BitVec 32 := 0#32
  let v343 : BitVec 1 := Scalar.cmpi .slt c4_i32_216 c0_i32_220
  let v344 : BitVec 32 := Scalar.extui v343
  let v345 : BitVec 32 := Scalar.subi v342 v344
  let v346 : BitVec 1 := Scalar.cmpi .ne v340 v345
  let v347 : BitVec 32 := Scalar.remsi arg17 c4_i32_216
  let c0_i32_221 : BitVec 32 := 0#32
  let v348 : BitVec 1 := Scalar.cmpi .ne v347 c0_i32_221
  let v349 : BitVec 1 := Scalar.andi v346 v348
  let v335 : BitVec 32 := Scalar.divsi arg17 c4_i32_216
  let c1_i32_222 : BitVec 32 := 1#32
  let v350 : BitVec 32 := Scalar.subi v335 c1_i32_222
  let v351 : BitVec 32 := Scalar.select v349 v350 v335
  let v553 : Index := Scalar.indexCast v351
  let c4_i32_252 : BitVec 32 := 4#32
  let c0_i32_253 : BitVec 32 := 0#32
  let v454 : BitVec 1 := Scalar.cmpi .eq c4_i32_252 c0_i32_253
  let c1_i32_254 : BitVec 32 := 1#32
  let v455 : BitVec 32 := Scalar.select v454 c1_i32_254 c4_i32_252
  let v456 : BitVec 32 := Scalar.remsi arg17 v455
  let c0_i32_256 : BitVec 32 := 0#32
  let v458 : BitVec 1 := Scalar.cmpi .slt v456 c0_i32_256
  let c0_i32_257 : BitVec 32 := 0#32
  let v459 : BitVec 1 := Scalar.cmpi .slt v455 c0_i32_257
  let v460 : BitVec 1 := Scalar.xori v458 v459
  let c0_i32_255 : BitVec 32 := 0#32
  let v457 : BitVec 1 := Scalar.cmpi .ne v456 c0_i32_255
  let v461 : BitVec 1 := Scalar.andi v460 v457
  let v462 : BitVec 32 := Scalar.addi v456 v455
  let v463 : BitVec 32 := Scalar.select v461 v462 v456
  let c32_i32_258 : BitVec 32 := 32#32
  let v464 : BitVec 32 := Scalar.muli v463 c32_i32_258
  let c16_i32_259 : BitVec 32 := 16#32
  let v465 : BitVec 32 := Scalar.addi v464 c16_i32_259
  let v554 : Index := Scalar.indexCast v465
  ![v553.toNat, v554.toNat]
def k0_off7 (i : grid0.Coords) (c0_i32_30 : BitVec 32) : Fin 3 → Nat :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let v47 : BitVec 32 := Scalar.muli c8_i32 v18
  let v48 : BitVec 32 := Scalar.addi v47 c0_i32_30
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_33 : BitVec 32 := 0#32
  ![v48.toNat, v28.toNat, 0]
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x16x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x16x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2x2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x2048x512 : Shape := ⟨3, ![16, 2048, 512]⟩
abbrev S16x2048 : Shape := ⟨2, ![16, 2048]⟩
abbrev S255 : Shape := ⟨1, ![255]⟩
abbrev S256x512 : Shape := ⟨2, ![256, 512]⟩
abbrev S1x1x255 : Shape := ⟨3, ![1, 1, 255]⟩
abbrev S16x2048x1 : Shape := ⟨3, ![16, 2048, 1]⟩
abbrev S16x2048x255 : Shape := ⟨3, ![16, 2048, 255]⟩
abbrev S_ : Shape := ⟨0, ![]⟩
abbrev S1 : Shape := ⟨1, ![1]⟩
abbrev S1x1x1 : Shape := ⟨3, ![1, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048, .f32⟩
  | .hbm, ⟨2, _⟩ => ⟨S16x2048, .f32⟩
  | .hbm, ⟨3, _⟩ => ⟨S255, .f32⟩
  | .hbm, ⟨4, _⟩ => ⟨S255, .f32⟩
  | .hbm, ⟨5, _⟩ => ⟨S256x512, .f32⟩
  | .hbm, ⟨6, _⟩ => ⟨S256x512, .f32⟩
  | .hbm, ⟨7, _⟩ => ⟨S1x1x255, .f32⟩
  | .hbm, ⟨8, _⟩ => ⟨S16x2048x1, .f32⟩
  | .hbm, ⟨9, _⟩ => ⟨S16x2048x255, .f32⟩
  | .hbm, ⟨10, _⟩ => ⟨S16x2048x255, .f32⟩
  | .hbm, ⟨11, _⟩ => ⟨S16x2048x255, .i1⟩
  | .hbm, ⟨12, _⟩ => ⟨S16x2048x255, .i32⟩
  | .hbm, ⟨13, _⟩ => ⟨S_, .i32⟩
  | .hbm, ⟨14, _⟩ => ⟨S16x2048, .i32⟩
  | .hbm, ⟨15, _⟩ => ⟨S_, .i32⟩
  | .hbm, ⟨16, _⟩ => ⟨S16x2048, .i32⟩
  | .hbm, ⟨17, _⟩ => ⟨S16x2048, .i1⟩
  | .hbm, ⟨18, _⟩ => ⟨S_, .i32⟩
  | .hbm, ⟨19, _⟩ => ⟨S16x2048, .i32⟩
  | .hbm, ⟨20, _⟩ => ⟨S16x2048, .i32⟩
  | .hbm, ⟨21, _⟩ => ⟨S16x2048, .i32⟩
  | .hbm, ⟨22, _⟩ => ⟨S16x2048x1, .i32⟩
  | .hbm, ⟨23, _⟩ => ⟨S1, .i32⟩
  | .hbm, ⟨24, _⟩ => ⟨S_, .i32⟩
  | .hbm, ⟨25, _⟩ => ⟨S16x2048x1, .i32⟩
  | .hbm, ⟨26, _⟩ => ⟨S16x2048x1, .i1⟩
  | .hbm, ⟨27, _⟩ => ⟨S1x1x1, .i32⟩
  | .hbm, ⟨28, _⟩ => ⟨S16x2048x1, .i32⟩
  | .hbm, ⟨29, _⟩ => ⟨S16x2048x1, .i1⟩
  | .hbm, ⟨30, _⟩ => ⟨S16x2048x1, .i1⟩
  | .hbm, ⟨31, _⟩ => ⟨S_, .i1⟩
  | .hbm, ⟨32, _⟩ => ⟨S16x2048, .i1⟩
  | .hbm, ⟨33, _⟩ => ⟨S16x2048x512, .f32⟩
  | .hbm, ⟨34, _⟩ => ⟨S16x2048x512, .i1⟩
  | .hbm, ⟨35, _⟩ => ⟨S_, .f32⟩
  | .hbm, ⟨36, _⟩ => ⟨S16x2048x512, .f32⟩
  | .hbm, ⟨37, _⟩ => ⟨S16x2048x512, .f32⟩
  | .hbm, ⟨38, _⟩ => ⟨S1x1x255, .f32⟩
  | .hbm, ⟨39, _⟩ => ⟨S16x2048x1, .f32⟩
  | .hbm, ⟨40, _⟩ => ⟨S16x2048x255, .f32⟩
  | .hbm, ⟨41, _⟩ => ⟨S16x2048x255, .f32⟩
  | .hbm, ⟨42, _⟩ => ⟨S16x2048x255, .i1⟩
  | .hbm, ⟨43, _⟩ => ⟨S16x2048x255, .i32⟩
  | .hbm, ⟨44, _⟩ => ⟨S_, .i32⟩
  | .hbm, ⟨45, _⟩ => ⟨S16x2048, .i32⟩
  | .hbm, ⟨46, _⟩ => ⟨S_, .i32⟩
  | .hbm, ⟨47, _⟩ => ⟨S16x2048, .i32⟩
  | .hbm, ⟨48, _⟩ => ⟨S16x2048, .i1⟩
  | .hbm, ⟨49, _⟩ => ⟨S_, .i32⟩
  | .hbm, ⟨50, _⟩ => ⟨S16x2048, .i32⟩
  | .hbm, ⟨51, _⟩ => ⟨S16x2048, .i32⟩
  | .hbm, ⟨52, _⟩ => ⟨S16x2048, .i32⟩
  | .hbm, ⟨53, _⟩ => ⟨S16x2048x1, .i32⟩
  | .hbm, ⟨54, _⟩ => ⟨S1, .i32⟩
  | .hbm, ⟨55, _⟩ => ⟨S_, .i32⟩
  | .hbm, ⟨56, _⟩ => ⟨S16x2048x1, .i32⟩
  | .hbm, ⟨57, _⟩ => ⟨S16x2048x1, .i1⟩
  | .hbm, ⟨58, _⟩ => ⟨S1x1x1, .i32⟩
  | .hbm, ⟨59, _⟩ => ⟨S16x2048x1, .i32⟩
  | .hbm, ⟨60, _⟩ => ⟨S16x2048x1, .i1⟩
  | .hbm, ⟨61, _⟩ => ⟨S16x2048x1, .i1⟩
  | .hbm, ⟨62, _⟩ => ⟨S_, .i1⟩
  | .hbm, ⟨63, _⟩ => ⟨S16x2048, .i1⟩
  | .hbm, ⟨64, _⟩ => ⟨S16x2048x512, .f32⟩
  | .hbm, ⟨65, _⟩ => ⟨S16x2048x512, .i1⟩
  | .hbm, ⟨66, _⟩ => ⟨S_, .f32⟩
  | .hbm, ⟨67, _⟩ => ⟨S16x2048x512, .f32⟩
  | .hbm, ⟨68, _⟩ => ⟨S16x2048x512, .f32⟩
  | .hbm, ⟨69, _⟩ => ⟨S16x2048x512, .f32⟩
  | .hbm, ⟨70, _⟩ => ⟨S16x2048x512, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c_0 : Ref sig .tc := ⟨.hbm, 44, rfl⟩
abbrev main_v14 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩

abbrev nD : Nat := 1
abbrev τ : Topo := Topo.v7x

variable {F : FTy → Type} [FloatOps F]
-- ==== Proof.Setup.lean ====
/- The program as the launch theorem sees it; the bin a value falls in, as the SparseCore kernel computes it; the
   buffers the kernel's call takes and what each tile carries. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The bin of one value, as the kernel computes it: a guess, then two looks at the boundaries -/

section Values

variable [FloatOps F]

/-- A guess brought into the range of the bins, 0 … 255. -/
def capBin (g : BitVec 32) : BitVec 32 := IntOp.minsi 255#32 (IntOp.maxsi 0#32 g)
/-- The boundary below guess `g`, and the boundary above it, brought into the range of the boundaries, 0 … 254. -/
def lowIx (g : BitVec 32) : BitVec 32 := IntOp.minsi 254#32 (IntOp.maxsi 0#32 (IntOp.subi g 1#32))
def hiIx (g : BitVec 32) : BitVec 32 := IntOp.minsi g 254#32
/-- The guess moved by the two comparisons with the boundaries around it. -/
def settle (g : BitVec 32) (v lo hi : F .f32) : BitVec 32 :=
  IntOp.addi (IntOp.addi (IntOp.subi g 1#32)
      ((IntOp.ori (IntOp.cmpi .eq g 0#32) (FloatOps.cmpf .olt lo v)).setWidth 32))
    ((IntOp.andi (IntOp.cmpi .slt g 255#32) (FloatOps.cmpf .olt hi v)).setWidth 32)
/-- The boundary a word names (254 where the word is out of range). -/
def look (b : S255.Idx → F .f32) (w : BitVec 32) : F .f32 := b fun a => ⟨min w.toNat 254, by
  match a with | 0 => exact lt_of_le_of_lt (min_le_right _ _) (show 254 < 255 by decide)⟩

/-- The energy's position on its grid, and the guess read off it. -/
def ePos (v : F .f32) : F .f32 := FloatOps.mulf v (FloatOps.ofBits .f32 0x43800000#32)
def eRaw (v : F .f32) : BitVec 32 :=
  IntOp.subi (FloatOps.fptosi 32 (ePos v)) ((FloatOps.cmpf .oeq (ePos v) (FloatOps.sitofp .f32 (FloatOps.fptosi 32 (ePos v)))).setWidth 32)
def eGuess (v : F .f32) : BitVec 32 := capBin (eRaw v)
/-- The pitch's position on its grid, and the guess read off it. -/
def pPos (v : F .f32) : F .f32 :=
  FloatOps.mulf (FloatOps.addf (FloatOps.mulf (FloatOps.mulf (FloatOps.log v) (FloatOps.ofBits .f32 0x3FB8AA3B#32)) (FloatOps.ofBits .f32 0x3E9A209B#32))
    (FloatOps.ofBits .f32 0x3F800000#32)) (FloatOps.ofBits .f32 0x43800000#32)
def pRaw (φ : F .f32) : BitVec 32 :=
  Scalar.select (FloatOps.cmpf .oeq φ (FloatOps.sitofp .f32 (FloatOps.fptosi 32 φ))) (IntOp.subi (FloatOps.fptosi 32 φ) 1#32) (FloatOps.fptosi 32 φ)
def pGuess (v : F .f32) : BitVec 32 := capBin (pRaw (pPos v))

/-- The bin of an energy, and of a pitch, among boundaries `b`. -/
def eBin (b : S255.Idx → F .f32) (v : F .f32) : BitVec 32 := settle (eGuess v) v (look b (lowIx (eGuess v))) (look b (hiIx (eGuess v)))
def pBin (b : S255.Idx → F .f32) (v : F .f32) : BitVec 32 := settle (pGuess v) v (look b (lowIx (pGuess v))) (look b (hiIx (pGuess v)))

theorem capBin_le (g : BitVec 32) : (capBin g).toNat ≤ 255 := by
  unfold capBin IntOp.minsi IntOp.maxsi
  have h := g.toNat_lt_twoPow_of_le (n := 32) le_rfl
  simp only [BitVec.slt, decide_eq_true_eq]
  split_ifs with h1 h2 h2 <;> simp only [BitVec.toInt_eq_toNat_cond] at * <;> simp at * <;> omega

theorem lowIx_lt (g : BitVec 32) : (lowIx g).toNat < 255 := by
  unfold lowIx IntOp.minsi IntOp.maxsi
  generalize IntOp.subi g 1#32 = w
  have h := w.toNat_lt_twoPow_of_le (n := 32) le_rfl
  simp only [BitVec.slt, decide_eq_true_eq]
  split_ifs with h1 h2 h2 <;> simp only [BitVec.toInt_eq_toNat_cond] at * <;> simp at * <;> omega

theorem hiIx_lt {g : BitVec 32} (hg : g.toNat ≤ 255) : (hiIx g).toNat < 255 := by
  unfold hiIx IntOp.minsi
  simp only [BitVec.slt, decide_eq_true_eq]
  split_ifs with h1 <;> simp only [BitVec.toInt_eq_toNat_cond] at * <;> simp at * <;> omega

end Values

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the pipeline's, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshake cells' rounds library, and the pipeline's cells'. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  (((Emb.inl : Emb UP (UP × Counters)).trans (Emb.inr : Emb (UP × Counters) UU))).trans
    (uEmb (nD := nD) (sig := sig) (Ix := HIx 1) (Val := Elt F) (Name := ℕ) (U := UU) (Lvl := ℕ)).toEmb

instance EH_landsIn : (EH (F := F)).LandsIn (upEmb : UEmb _ 𝕄) := by unfold EH; infer_instance
instance EP_landsIn : (EP (F := F)).LandsIn (upEmb : UEmb _ 𝕄) := by unfold EP; infer_instance

theorem ownU_split (a : UH) (b : UP) : (ownU ((a, (b, 1)) : UU) : sProp 𝕄) ⊢ iprop(BI.own (EH (F := F) a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-! ## The launch memory and the buffers -/

variable (m : (ℓ : Loc nD τ sig) → Buf (Elt F) ℓ) (ρ : Dev nD → PrngReg)

abbrev xLoc (d : Dev nD) : Loc nD τ sig := (SparseCore.T d).loc main_arg0
abbrev etLoc (d : Dev nD) : Loc nD τ sig := (SparseCore.T d).loc main_arg1
abbrev ptLoc (d : Dev nD) : Loc nD τ sig := (SparseCore.T d).loc main_arg2
abbrev ebLoc (d : Dev nD) : Loc nD τ sig := (SparseCore.T d).loc main_arg3
abbrev pbLoc (d : Dev nD) : Loc nD τ sig := (SparseCore.T d).loc main_arg4
abbrev teLoc (d : Dev nD) : Loc nD τ sig := (SparseCore.T d).loc main_arg5
abbrev tpLoc (d : Dev nD) : Loc nD τ sig := (SparseCore.T d).loc main_arg6
abbrev v1Loc (d : Dev nD) : Loc nD τ sig := (SparseCore.T d).loc main_v1
abbrev v3Loc (d : Dev nD) : Loc nD τ sig := (SparseCore.T d).loc main_v3
abbrev ieLoc (d : Dev nD) : Loc nD τ sig := (SparseCore.T d).loc main_v4_0
abbrev ipLoc (d : Dev nD) : Loc nD τ sig := (SparseCore.T d).loc main_v4_1
abbrev oLoc (d : Dev nD) : Loc nD τ sig := (SparseCore.T d).loc main_v5

/-- A target as @main hands it to the kernel: [16, 2048] split and transposed to [2, 16, 8, 128]. -/
def split4 (f : S16x2048.Idx → F .f32) : S2x16x8x128.Idx → F .f32 :=
  transpose S2x16x8x128 [0, 2, 1, 3] (shapeCast S2x8x16x128 f shapeCasts_S16x2048_S2x8x16x128) transposes_S2x8x16x128_S2x16x8x128_0_2_1_3

abbrev et4 (d : Dev nD) : Buf (Elt F) (v1Loc d) := split4 (m (etLoc d))
abbrev pt4 (d : Dev nD) : Buf (Elt F) (v3Loc d) := split4 (m (ptLoc d))

/-- Where the split target holds the value whose bin is written at row `p 0`, lane group `p 1`, lane `p 2`. -/
def ix4 (p : S16x16x128.Idx) : S2x16x8x128.Idx := fun a => match a with
  | 0 => ⟨(p 0).val / 8, by have := (p 0).isLt; simp only [S16x16x128, S2x16x8x128, Matrix.cons_val_zero] at *; omega⟩
  | 1 => ⟨(p 1).val, (p 1).isLt⟩
  | 2 => ⟨(p 0).val % 8, Nat.mod_lt _ (by decide)⟩
  | 3 => ⟨(p 2).val, (p 2).isLt⟩

variable [FloatOps F]

/-- The bins the kernel leaves. -/
def eRes (d : Dev nD) : Buf (Elt F) (ieLoc d) := fun p => eBin (m (ebLoc d)) (et4 m d (ix4 p))
def pRes (d : Dev nD) : Buf (Elt F) (ipLoc d) := fun p => pBin (m (pbLoc d)) (pt4 m d (ix4 p))

/-! ## A tile's part of each array -/

abbrev cV (L : grid0.Coords) : Fin τ.nSC := (L 0).castLE hcore0
abbrev jV (L : grid0.Coords) : Fin τ.nSub := (L 1).castLE hsub0

/-- The tile's number, 0 … 31. -/
abbrev wid (L : grid0.Coords) : ℕ := 2 * (L 1).val + (L 0).val

abbrev inRect (L : grid0.Coords) : Rect S2x16x8x128 := Rect.unit (s := S2x16x8x128) (k0_off1 L) S1x1x8x128.size (k0_off1_inb L)
abbrev rowRect (L : grid0.Coords) (r : Fin 8) : Rect S16x16x128 :=
  Rect.unit (s := S16x16x128) (k0_off7 L (BitVec.ofNat 32 r.val)) S1x1x128.size (k0_off7_inb L r)

abbrev tokV (L : grid0.Coords) : PosShare TreeShare := Transfers.shareTokN fullShare (wid L)

abbrev eInPts (d : Dev nD) (L : grid0.Coords) : sProp 𝕄 := v1Loc d ↦[(inRect L).set]{fullShare} et4 m d
abbrev pInPts (d : Dev nD) (L : grid0.Coords) : sProp 𝕄 := v3Loc d ↦[(inRect L).set]{fullShare} pt4 m d
abbrev ebPts (d : Dev nD) (L : grid0.Coords) : sProp 𝕄 := ebLoc d ↦{tokV L} m (ebLoc d)
abbrev pbPts (d : Dev nD) (L : grid0.Coords) : sProp 𝕄 := pbLoc d ↦{tokV L} m (pbLoc d)
abbrev ieRow (d : Dev nD) (L : grid0.Coords) (f : Buf (Elt F) (ieLoc d)) (r : Fin 8) : sProp 𝕄 := ieLoc d ↦[(rowRect L r).set]{fullShare} f
abbrev ipRow (d : Dev nD) (L : grid0.Coords) (f : Buf (Elt F) (ipLoc d)) (r : Fin 8) : sProp 𝕄 := ipLoc d ↦[(rowRect L r).set]{fullShare} f

/-- What a tile holds while its task runs, the rows of the two results at contents `fe`, `fp`. -/
abbrev tilePts (d : Dev nD) (L : grid0.Coords) (fe : Buf (Elt F) (ieLoc d)) (fp : Buf (Elt F) (ipLoc d)) : sProp 𝕄 :=
  iprop(eInPts m d L ∗ pInPts m d L ∗ ebPts m d L ∗ pbPts m d L
    ∗ (bigSep Finset.univ fun r : Fin 8 => ieRow d L fe r) ∗ (bigSep Finset.univ fun r : Fin 8 => ipRow d L fp r))

abbrev coordsV (c : Fin (grid0.bound 0)) (s : Fin (grid0.bound 1)) : grid0.Coords :=
  fun | 0 => c | 1 => s | ⟨_ + 2, h⟩ => absurd h (Nat.not_lt.2 (Nat.le_add_left _ _))

/-- A SparseCore's part of the call: its sixteen tiles' parts. -/
abbrev corePts (d : Dev nD) (c : Fin ((K (F := F)).nCore 0)) (fe : Buf (Elt F) (ieLoc d)) (fp : Buf (Elt F) (ipLoc d)) : sProp 𝕄 :=
  bigSep Finset.univ fun i : Fin ((K (F := F)).nSub 0) => tilePts m d (coordsV c i) fe fp

def P : (K (F := F)).Pay (nD := nD) (Val := Elt F) (Name := ℕ) (U := UU) where
  st := fun q d c => match q with | 0 => corePts m d c (m (ieLoc d)) (m (ipLoc d))
  dn := fun q d c => match q with | 0 => corePts m d c (eRes m d) (pRes m d)
  go := fun q d c i => match q with | 0 => tilePts m d (coordsV c i) (m (ieLoc d)) (m (ipLoc d))
  td := fun q d c i => match q with | 0 => tilePts m d (coordsV c i) (eRes m d) (pRes m d)
  x := fun _ _ => iprop(emp)

instance tilePts_storable (d : Dev nD) (L : grid0.Coords) (fe : Buf (Elt F) (ieLoc d)) (fp : Buf (Elt F) (ipLoc d)) :
    BI.Storable (upEmb : UEmb _ 𝕄) (tilePts m d L fe fp) := inferInstance

instance P_storable : (P (F := F) m).IsStorable where
  st q d c := match q with | 0 => (inferInstance : BI.Storable (upEmb : UEmb _ 𝕄) (corePts m d c (m (ieLoc d)) (m (ipLoc d))))
  dn q d c := match q with | 0 => (inferInstance : BI.Storable (upEmb : UEmb _ 𝕄) (corePts m d c (eRes m d) (pRes m d)))
  go q d c i := match q with | 0 => (inferInstance : BI.Storable (upEmb : UEmb _ 𝕄) (tilePts m d (coordsV c i) (m (ieLoc d)) (m (ipLoc d))))
  td q d c i := match q with | 0 => (inferInstance : BI.Storable (upEmb : UEmb _ 𝕄) (tilePts m d (coordsV c i) (eRes m d) (pRes m d)))

end Cert.Proof.Sc

end
-- ==== Proof.Trip.lean ====
/- One trip of the kernel's loop: thirty-two lanes of each target, their bins written. -/
module

public import proofs.«01_k».proof.Proof.Setup

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev teV : Memref sig .scVector .vmem S8x128 .f32 := Memref.whole cc0_scratch0
abbrev tpV : Memref sig .scVector .vmem S8x128 .f32 := Memref.whole cc0_scratch1
abbrev ideV : Memref sig .scVector .vmem S8x128 .i32 := Memref.whole cc0_scratch2
abbrev idpV : Memref sig .scVector .vmem S8x128 .i32 := Memref.whole cc0_scratch3
abbrev ebV : Memref sig .scVector .vmem S255 .f32 := Memref.whole cc0_scratch4
abbrev pbV : Memref sig .scVector .vmem S255 .f32 := Memref.whole cc0_scratch5
abbrev a2V : Memref sig .scVector .hbm S2x16x8x128 .f32 := Memref.whole main_v1_scv
abbrev a3V : Memref sig .scVector .hbm S2x16x8x128 .f32 := Memref.whole main_v3_scv
abbrev a4V : Memref sig .scVector .hbm S255 .f32 := Memref.whole main_arg3_scv
abbrev a5V : Memref sig .scVector .hbm S255 .f32 := Memref.whole main_arg4_scv
abbrev a6V : Memref sig .scVector .hbm S16x16x128 .i32 := Memref.whole main_v4_0_scv
abbrev a7V : Memref sig .scVector .hbm S16x16x128 .i32 := Memref.whole main_v4_1_scv

/-! ## The windows of a trip, in closed form -/

theorem trips_eq : k0_t1_loop.trips = 32 := by decide

theorem off2_eq (t : Fin k0_t1_loop.trips) : k0_off2 t = ![t.val / 4, (t.val % 4) * 32] := by
  revert t; decide +kernel
theorem off3_eq (t : Fin k0_t1_loop.trips) : k0_off3 t = ![t.val / 4, (t.val % 4) * 32] := by
  revert t; decide +kernel
theorem off4_0_eq (t : Fin k0_t1_loop.trips) : k0_off4 t 0#32 = ![t.val / 4, (t.val % 4) * 32] := by
  revert t; decide +kernel
theorem off4_1_eq (t : Fin k0_t1_loop.trips) : k0_off4 t 16#32 = ![t.val / 4, (t.val % 4) * 32 + 16] := by
  revert t; decide +kernel
theorem off5_eq (t : Fin k0_t1_loop.trips) : k0_off5 t = ![t.val / 4, (t.val % 4) * 32 + 16] := by
  revert t; decide +kernel
theorem off6_eq (t : Fin k0_t1_loop.trips) : k0_off6 t = ![t.val / 4, (t.val % 4) * 32 + 16] := by
  revert t; decide +kernel

variable [FloatOps F]

theorem chk1_of (v : IVec S16 32) (h : ∀ x, (v x).toNat < 255) : k0_chk1 v := fun a x => by
  match a with | 0 => exact h x

theorem chk2_of (v : IVec S16 32) (h : ∀ x, (v x).toNat < 255) : k0_chk2 v := fun a x => by
  match a with | 0 => exact h x
theorem chk3_of (v : IVec S16 32) (h : ∀ x, (v x).toNat < 255) : k0_chk3 v := fun a x => by
  match a with | 0 => exact h x
theorem chk4_of (v : IVec S16 32) (h : ∀ x, (v x).toNat < 255) : k0_chk4 v := fun a x => by
  match a with | 0 => exact h x
theorem chk5_of (v : IVec S16 32) (h : ∀ x, (v x).toNat < 255) : k0_chk5 v := fun a x => by
  match a with | 0 => exact h x
theorem chk6_of (v : IVec S16 32) (h : ∀ x, (v x).toNat < 255) : k0_chk6 v := fun a x => by
  match a with | 0 => exact h x
theorem chk7_of (v : IVec S16 32) (h : ∀ x, (v x).toNat < 255) : k0_chk7 v := fun a x => by
  match a with | 0 => exact h x
theorem chk8_of (v : IVec S16 32) (h : ∀ x, (v x).toNat < 255) : k0_chk8 v := fun a x => by
  match a with | 0 => exact h x
theorem low5 (w : IVec S16 32) (x : S16.Idx) : (k0_pay5 w 255#32 k0_pay3 x).toNat < 255 := lowIx_lt (capBin (w x))
theorem hi6 (w : IVec S16 32) (x : S16.Idx) : (k0_pay6 w 255#32 k0_pay3 x).toNat < 255 := hiIx_lt (capBin_le (w x))
theorem low13 (a : FVec F S16 .f32) (w : IVec S16 32) (b : FVec F S16 .f32) (x : S16.Idx) : (k0_pay13 a w b x).toNat < 255 :=
  lowIx_lt (k0_pay12 a w b x)
theorem hi14 (a : FVec F S16 .f32) (w : IVec S16 32) (b : FVec F S16 .f32) (x : S16.Idx) : (k0_pay14 a w b x).toNat < 255 :=
  hiIx_lt (g := k0_pay12 a w b x) (capBin_le (Scalar.select (FloatOps.cmpf .oeq (a x) (b x)) (IntOp.subi (w x) 1#32) (w x)))
theorem low18 (ld : Vec F S1x16 .f32) (x : S16.Idx) : (k0_pay18 ld x).toNat < 255 := lowIx_lt (k0_pay17 ld x)
theorem hi19 (ld : Vec F S1x16 .f32) (x : S16.Idx) : (k0_pay19 ld x).toNat < 255 :=
  hiIx_lt (g := k0_pay17 ld x) (capBin_le (eRaw (k0_pay16 ld x)))
theorem low23 (ld : Vec F S1x16 .f32) (x : S16.Idx) : (k0_pay23 ld x).toNat < 255 := lowIx_lt (k0_pay22 ld x)
theorem hi24 (ld : Vec F S1x16 .f32) (x : S16.Idx) : (k0_pay24 ld x).toNat < 255 :=
  hiIx_lt (g := k0_pay22 ld x) (capBin_le (pRaw (pPos (k0_pay21 ld x))))

section Trip

variable (d : Dev nD) (L : grid0.Coords)

abbrev thr (d : Dev nD) (L : grid0.Coords) : Thread nD τ := V d (cV L) (jV L)

/-- The tile's own buffers: the two targets, the two rows of bins, the two arrays of boundaries. -/
abbrev teP (f : S8x128.Idx → F .f32) : sProp 𝕄 := teV.view.loc (thr d L) ↦{fullShare} (f : Buf (Elt F) (teV.view.loc (thr d L)))
abbrev tpP (f : S8x128.Idx → F .f32) : sProp 𝕄 := tpV.view.loc (thr d L) ↦{fullShare} (f : Buf (Elt F) (tpV.view.loc (thr d L)))
abbrev ideP (f : S8x128.Idx → BitVec 32) : sProp 𝕄 := ideV.view.loc (thr d L) ↦{fullShare} (f : Buf (Elt F) (ideV.view.loc (thr d L)))
abbrev idpP (f : S8x128.Idx → BitVec 32) : sProp 𝕄 := idpV.view.loc (thr d L) ↦{fullShare} (f : Buf (Elt F) (idpV.view.loc (thr d L)))
abbrev ebP (f : S255.Idx → F .f32) : sProp 𝕄 := ebV.view.loc (thr d L) ↦{fullShare} (f : Buf (Elt F) (ebV.view.loc (thr d L)))
abbrev pbP (f : S255.Idx → F .f32) : sProp 𝕄 := pbV.view.loc (thr d L) ↦{fullShare} (f : Buf (Elt F) (pbV.view.loc (thr d L)))

/-- The windows of a trip, in the order in which the program names them. -/
abbrev r2 (t : Fin k0_t1_loop.trips) : Rect S8x128 := Rect.unit (s := S8x128) (k0_off2 t) S1x16.size (k0_off2_inb t)
abbrev r3 (t : Fin k0_t1_loop.trips) : Rect S8x128 := Rect.unit (s := S8x128) (k0_off3 t) S1x16.size (k0_off3_inb t)
abbrev r40 (t : Fin k0_t1_loop.trips) : Rect S8x128 := Rect.unit (s := S8x128) (k0_off4 t 0#32) S1x16.size (k0_off4_inb t 0)
abbrev r41 (t : Fin k0_t1_loop.trips) : Rect S8x128 := Rect.unit (s := S8x128) (k0_off4 t 16#32) S1x16.size (k0_off4_inb t 1)
abbrev r5 (t : Fin k0_t1_loop.trips) : Rect S8x128 := Rect.unit (s := S8x128) (k0_off5 t) S1x16.size (k0_off5_inb t)
abbrev r6 (t : Fin k0_t1_loop.trips) : Rect S8x128 := Rect.unit (s := S8x128) (k0_off6 t) S1x16.size (k0_off6_inb t)
/-- What a gather of a boundary array at in-range indices brings. -/
abbrev gatE (b : S255.Idx → F .f32) (v : IVec S16 32) (h : ∀ x, (v x).toNat < 255) : Vec F S16 .f32 :=
  loadIdx (View.read (Elt F) ((Memref.whole cc0_scratch4).access (Rect.whole cc0_scratch4.ty.shape)) b) ![v] (chk1_of v h)
abbrev gatP (b : S255.Idx → F .f32) (v : IVec S16 32) (h : ∀ x, (v x).toNat < 255) : Vec F S16 .f32 :=
  loadIdx (View.read (Elt F) ((Memref.whole cc0_scratch5).access (Rect.whole cc0_scratch5.ty.shape)) b) ![v] (chk1_of v h)
/-- What a load of a window of a target brings. -/
abbrev ldE (r : Rect S8x128) (f : S8x128.Idx → F .f32) : r.shape.Idx → F .f32 := teV.view.readAt (Elt F) r.toLoadRect f
abbrev ldP (r : Rect S8x128) (f : S8x128.Idx → F .f32) : r.shape.Idx → F .f32 := tpV.view.readAt (Elt F) r.toLoadRect f

/-- A row buffer after a store of sixteen lanes at a window. -/
def stE (r : Rect S8x128) (w : r.shape.Idx → BitVec 32) (g : S8x128.Idx → BitVec 32) : S8x128.Idx → BitVec 32 := ideV.view.writes (Elt F) g [⟨r, w⟩]
def stP (r : Rect S8x128) (w : r.shape.Idx → BitVec 32) (g : S8x128.Idx → BitVec 32) : S8x128.Idx → BitVec 32 := idpV.view.writes (Elt F) g [⟨r, w⟩]

variable (fe fp : S8x128.Idx → F .f32) (be bp : S255.Idx → F .f32) (g : S8x128.Idx → BitVec 32) (t : Fin k0_t1_loop.trips) (v351 v363 : BitVec 32)

set_option maxHeartbeats 400000 in
theorem part1_wp (Q : _ → sProp 𝕄) :
    iprop(teP d L fe ∗ (teP d L fe -∗ ∀ a b c, Q ⟨a, b, c, k0_pay1 (ldE (r2 t) fe), k0_pay2 (ldE (r2 t) fe), 255#32, k0_pay3⟩))
      ⊢ wp frame (wpE (defs₀ (F := F)) 𝒱₀ (thr d L) none) Set.univ
          (k0_part1 L a2V (Memref.isWhole_whole _) a3V (Memref.isWhole_whole _) a4V (Memref.isWhole_whole _) a5V (Memref.isWhole_whole _)
            a6V (Memref.isWhole_whole _) a7V (Memref.isWhole_whole _) teV (Memref.isWhole_whole _) tpV (Memref.isWhole_whole _)
            ideV (Memref.isWhole_whole _) idpV (Memref.isWhole_whole _) ebV (Memref.isWhole_whole _) pbV (Memref.isWhole_whole _)
            cc0_scratch6 cc0_scratch7 cc0_scratch8 0#32 1#32 t) Q := by
  rw [k0_part1_eq_skeleton]
  unfold k0_part1_skel teP teV
  iintro ⟨H8, Hk⟩
  sl_exec
  sl_step
  ispecialize Hk $$ H8
  iapply Hk

set_option maxHeartbeats 400000 in
theorem part2_wp (v366 : Vec F S16 .f32) (v373 : IVec S16 32) (Q : _ → sProp 𝕄) :
    iprop(tpP d L fp ∗ ebP d L be ∗ ideP d L g ∗ (tpP d L fp -∗ ebP d L be -∗
        ideP d L (stE (F := F) (r3 t) (shapeCast S1x16 (k0_pay7 v366 v373 255#32 k0_pay3
          (gatE be (k0_pay5 v373 255#32 k0_pay3) (low5 v373)) (gatE be (k0_pay6 v373 255#32 k0_pay3) (hi6 v373))) shapeCasts_S16_S1x16) g) -∗
        Q ⟨k0_pay8 (ldP (r3 t) fp), k0_pay9 (ldP (r3 t) fp), k0_pay10 (ldP (r3 t) fp), k0_pay11 (ldP (r3 t) fp)⟩))
      ⊢ wp frame (wpE (defs₀ (F := F)) 𝒱₀ (thr d L) none) Set.univ
          (k0_part2 L a2V (Memref.isWhole_whole _) a3V (Memref.isWhole_whole _) a4V (Memref.isWhole_whole _) a5V (Memref.isWhole_whole _)
            a6V (Memref.isWhole_whole _) a7V (Memref.isWhole_whole _) teV (Memref.isWhole_whole _) tpV (Memref.isWhole_whole _)
            ideV (Memref.isWhole_whole _) idpV (Memref.isWhole_whole _) ebV (Memref.isWhole_whole _) pbV (Memref.isWhole_whole _)
            cc0_scratch6 cc0_scratch7 cc0_scratch8 t v351 v363 v366 v373 255#32 k0_pay3) Q := by
  rw [k0_part2_eq_skeleton]
  unfold k0_part2_skel stE tpP ebP ideP tpV ideV ebV
  iintro ⟨H9, H12, H10, Hk⟩
  sl_exec
  rw [wp_assume_of _ _ _ _ (chk1_of (part2_wp.sl.v383 v373) (low5 v373))]
  iapply (SparseCore.wp_vectorLoadIdx 𝒱₀ (thr d L) none Set.univ (base := Memref.whole cc0_scratch4) (S := Finset.univ) (Finset.subset_univ _)) $$ H12; iintro H12
  sl_exec
  rw [wp_assume_of _ _ _ _ (chk2_of (part2_wp.sl.v386 v373) (hi6 v373))]
  iapply (SparseCore.wp_vectorLoadIdx 𝒱₀ (thr d L) none Set.univ (base := Memref.whole cc0_scratch4) (S := Finset.univ) (Finset.subset_univ _)) $$ H12; iintro H12
  sl_exec
  sl_step
  delta part2_wp.sl.v383 part2_wp.sl.v386
  ispecialize Hk $$ H9
  ispecialize Hk $$ H12
  ispecialize Hk $$ H10
  iexact Hk

set_option maxHeartbeats 400000 in
theorem part3_wp (a17 : BitVec 32) (v407 : Vec F S16 .f32) (v416 : FVec F S16 .f32) (v417 : IVec S16 32) (v418 : FVec F S16 .f32) (Q : _ → sProp 𝕄) :
    iprop(pbP d L bp ∗ idpP d L g ∗ (pbP d L bp -∗
        idpP d L (stP (F := F) (r40 t) (shapeCast S1x16 (k0_pay15 v407 v416 v417 v418
          (gatP bp (k0_pay13 v416 v417 v418) (low13 v416 v417 v418)) (gatP bp (k0_pay14 v416 v417 v418) (hi14 v416 v417 v418))) shapeCasts_S16_S1x16) g) -∗
        ∀ a b c e z, Q ⟨a, b, c, e, z⟩))
      ⊢ wp frame (wpE (defs₀ (F := F)) 𝒱₀ (thr d L) none) Set.univ
          (k0_part3 L a2V (Memref.isWhole_whole _) a3V (Memref.isWhole_whole _) a4V (Memref.isWhole_whole _) a5V (Memref.isWhole_whole _)
            a6V (Memref.isWhole_whole _) a7V (Memref.isWhole_whole _) teV (Memref.isWhole_whole _) tpV (Memref.isWhole_whole _)
            ideV (Memref.isWhole_whole _) idpV (Memref.isWhole_whole _) ebV (Memref.isWhole_whole _) pbV (Memref.isWhole_whole _)
            cc0_scratch6 cc0_scratch7 cc0_scratch8 t a17 v351 v363 v407 v416 v417 v418) Q := by
  rw [k0_part3_eq_skeleton]
  unfold k0_part3_skel stP pbP idpP pbV idpV
  iintro ⟨H13, H11, Hk⟩
  sl_exec
  rw [wp_assume_of _ _ _ _ (chk3_of (k0_pay13 v416 v417 v418) (low13 v416 v417 v418))]
  iapply (SparseCore.wp_vectorLoadIdx 𝒱₀ (thr d L) none Set.univ (base := Memref.whole cc0_scratch5) (S := Finset.univ) (Finset.subset_univ _)) $$ H13; iintro H13
  sl_exec
  rw [wp_assume_of _ _ _ _ (chk4_of (k0_pay14 v416 v417 v418) (hi14 v416 v417 v418))]
  iapply (SparseCore.wp_vectorLoadIdx 𝒱₀ (thr d L) none Set.univ (base := Memref.whole cc0_scratch5) (S := Finset.univ) (Finset.subset_univ _)) $$ H13; iintro H13
  sl_exec
  sl_step
  ispecialize Hk $$ H13
  ispecialize Hk $$ H11
  iapply Hk

set_option maxHeartbeats 400000 in
theorem part4_wp (v455 v456 : BitVec 32) (v457 v458 : BitVec 1) (z : BitVec 32) (Q : _ → sProp 𝕄) :
    iprop(teP d L fe ∗ ebP d L be ∗ (teP d L fe -∗ ebP d L be -∗
        ∀ a, Q ⟨a, k0_pay20 (ldE (r41 t) fe) (gatE be (k0_pay18 (ldE (r41 t) fe)) (low18 _)) (gatE be (k0_pay19 (ldE (r41 t) fe)) (hi19 _))⟩))
      ⊢ wp frame (wpE (defs₀ (F := F)) 𝒱₀ (thr d L) none) Set.univ
          (k0_part4 L a2V (Memref.isWhole_whole _) a3V (Memref.isWhole_whole _) a4V (Memref.isWhole_whole _) a5V (Memref.isWhole_whole _)
            a6V (Memref.isWhole_whole _) a7V (Memref.isWhole_whole _) teV (Memref.isWhole_whole _) tpV (Memref.isWhole_whole _)
            ideV (Memref.isWhole_whole _) idpV (Memref.isWhole_whole _) ebV (Memref.isWhole_whole _) pbV (Memref.isWhole_whole _)
            cc0_scratch6 cc0_scratch7 cc0_scratch8 t v351 v455 v456 v457 v458 z) Q := by
  rw [k0_part4_eq_skeleton]
  unfold k0_part4_skel teP ebP teV ebV
  iintro ⟨H8, H12, Hk⟩
  sl_exec
  rw [wp_assume_of _ _ _ _ (chk5_of (part4_wp.sl.v485 fe t) (low18 _))]
  iapply (SparseCore.wp_vectorLoadIdx 𝒱₀ (thr d L) none Set.univ (base := Memref.whole cc0_scratch4) (S := Finset.univ) (Finset.subset_univ _)) $$ H12; iintro H12
  sl_exec
  rw [wp_assume_of _ _ _ _ (chk6_of (part4_wp.sl.v488 fe t) (hi19 _))]
  iapply (SparseCore.wp_vectorLoadIdx 𝒱₀ (thr d L) none Set.univ (base := Memref.whole cc0_scratch4) (S := Finset.univ) (Finset.subset_univ _)) $$ H12; iintro H12
  sl_exec
  sl_step
  delta part4_wp.sl.v485 part4_wp.sl.v488
  ispecialize Hk $$ H8
  ispecialize Hk $$ H12
  iapply Hk

set_option maxHeartbeats 400000 in
theorem part5_wp (v465 : BitVec 32) (v503 : IVec S16 32) (Q : _ → sProp 𝕄) :
    iprop(tpP d L fp ∗ pbP d L bp ∗ ideP d L g ∗ (tpP d L fp -∗ pbP d L bp -∗
        ideP d L (stE (F := F) (r5 t) (shapeCast S1x16 v503 shapeCasts_S16_S1x16) g) -∗
        Q ⟨k0_pay21 (ldP (r5 t) fp), k0_pay22 (ldP (r5 t) fp), gatP bp (k0_pay24 (ldP (r5 t) fp)) (hi24 _),
          k0_pay25 (ldP (r5 t) fp) (gatP bp (k0_pay23 (ldP (r5 t) fp)) (low23 _)), k0_pay26 (ldP (r5 t) fp)⟩))
      ⊢ wp frame (wpE (defs₀ (F := F)) 𝒱₀ (thr d L) none) Set.univ
          (k0_part5 L a2V (Memref.isWhole_whole _) a3V (Memref.isWhole_whole _) a4V (Memref.isWhole_whole _) a5V (Memref.isWhole_whole _)
            a6V (Memref.isWhole_whole _) a7V (Memref.isWhole_whole _) teV (Memref.isWhole_whole _) tpV (Memref.isWhole_whole _)
            ideV (Memref.isWhole_whole _) idpV (Memref.isWhole_whole _) ebV (Memref.isWhole_whole _) pbV (Memref.isWhole_whole _)
            cc0_scratch6 cc0_scratch7 cc0_scratch8 t v351 v465 v503) Q := by
  rw [k0_part5_eq_skeleton]
  unfold k0_part5_skel stE tpP pbP ideP tpV ideV pbV
  iintro ⟨H9, H13, H10, Hk⟩
  sl_exec
  rw [wp_assume_of _ _ _ _ (chk7_of (part5_wp.sl.v534 fp t) (low23 _))]
  iapply (SparseCore.wp_vectorLoadIdx 𝒱₀ (thr d L) none Set.univ (base := Memref.whole cc0_scratch5) (S := Finset.univ) (Finset.subset_univ _)) $$ H13; iintro H13
  sl_exec
  rw [wp_assume_of _ _ _ _ (chk8_of (part5_wp.sl.v537 fp t) (hi24 _))]
  iapply (SparseCore.wp_vectorLoadIdx 𝒱₀ (thr d L) none Set.univ (base := Memref.whole cc0_scratch5) (S := Finset.univ) (Finset.subset_univ _)) $$ H13; iintro H13
  sl_exec
  sl_step
  delta part5_wp.sl.v534 part5_wp.sl.v537
  ispecialize Hk $$ H9
  ispecialize Hk $$ H13
  ispecialize Hk $$ H10
  iexact Hk

end Trip

end Cert.Proof.Sc

end
-- ==== Proof.Lanes.lean ====
/- What one trip of the loop writes: the bins of its thirty-two lanes of each target. -/
module

public import proofs.«01_k».proof.Proof.Trip

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The lanes -/

theorem gatE_apply (b : S255.Idx → F .f32) (v : IVec S16 32) (h : ∀ x, (v x).toNat < 255) (x : S16.Idx) :
    gatE b v h x = look b (v x) := by
  have e : View.read (Elt F) ((Memref.whole cc0_scratch4).access (Rect.whole cc0_scratch4.ty.shape)) b = b := Memref.read_access_whole _ _ _
  unfold gatE loadIdx look
  rw [e]
  refine congrArg b (funext fun a => Fin.ext ?_)
  match a with
  | 0 => exact (min_eq_left (Nat.le_of_lt_succ (h x))).symm

theorem gatP_apply (b : S255.Idx → F .f32) (v : IVec S16 32) (h : ∀ x, (v x).toNat < 255) (x : S16.Idx) :
    gatP b v h x = look b (v x) := by
  have e : View.read (Elt F) ((Memref.whole cc0_scratch5).access (Rect.whole cc0_scratch5.ty.shape)) b = b := Memref.read_access_whole _ _ _
  unfold gatP loadIdx look
  rw [e]
  refine congrArg b (funext fun a => Fin.ext ?_)
  match a with
  | 0 => exact (min_eq_left (Nat.le_of_lt_succ (h x))).symm

/-- Lanes taken out of a row of sixteen, worked on one by one and put back as a row. -/
theorem lanes_back (G : F .f32 → BitVec 32) (ld : Vec F S1x16 .f32) (w : IVec S16 32)
    (h : ∀ x, w x = G (shapeCast S16 ld shapeCasts_S1x16_S16 x)) :
    (shapeCast S1x16 w shapeCasts_S16_S1x16 : S1x16.Idx → BitVec 32) = fun y => G (ld y) := by
  funext y
  refine (h (Shape.reshapeEquiv _ y)).trans (congrArg (fun z => G (ld z)) ?_)
  exact (Shape.reshapeEquiv_reshapeEquiv _ _ y).trans (Shape.reshapeEquiv_self _ y)

theorem lanes7 (b : S255.Idx → F .f32) (ld : Vec F S1x16 .f32) :
    (shapeCast S1x16 (k0_pay7 (k0_pay1 ld) (k0_pay2 ld) 255#32 k0_pay3
      (gatE b (k0_pay5 (k0_pay2 ld) 255#32 k0_pay3) (low5 _)) (gatE b (k0_pay6 (k0_pay2 ld) 255#32 k0_pay3) (hi6 _))) shapeCasts_S16_S1x16
      : S1x16.Idx → BitVec 32) = fun y => eBin b (ld y) := by
  refine lanes_back (eBin b) ld _ fun x => ?_
  have h1 := gatE_apply b (k0_pay5 (k0_pay2 ld) 255#32 k0_pay3) (low5 _) x
  have h2 := gatE_apply b (k0_pay6 (k0_pay2 ld) 255#32 k0_pay3) (hi6 _) x
  exact (congrArg₂ (settle (k0_pay4 (k0_pay2 ld) 255#32 k0_pay3 x) (k0_pay1 ld x)) h1 h2)

theorem lanes20 (b : S255.Idx → F .f32) (ld : Vec F S1x16 .f32) :
    (shapeCast S1x16 (k0_pay20 ld (gatE b (k0_pay18 ld) (low18 _)) (gatE b (k0_pay19 ld) (hi19 _))) shapeCasts_S16_S1x16
      : S1x16.Idx → BitVec 32) = fun y => eBin b (ld y) := by
  refine lanes_back (eBin b) ld _ fun x => ?_
  have h1 := gatE_apply b (k0_pay18 ld) (low18 _) x
  have h2 := gatE_apply b (k0_pay19 ld) (hi19 _) x
  exact (congrArg₂ (settle (k0_pay17 ld x) (k0_pay16 ld x)) h1 h2)

theorem lanes15 (b : S255.Idx → F .f32) (ld : Vec F S1x16 .f32) :
    (shapeCast S1x16 (k0_pay15 (k0_pay8 ld) (k0_pay9 ld) (k0_pay10 ld) (k0_pay11 ld)
      (gatP b (k0_pay13 (k0_pay9 ld) (k0_pay10 ld) (k0_pay11 ld)) (low13 _ _ _)) (gatP b (k0_pay14 (k0_pay9 ld) (k0_pay10 ld) (k0_pay11 ld)) (hi14 _ _ _)))
      shapeCasts_S16_S1x16 : S1x16.Idx → BitVec 32) = fun y => pBin b (ld y) := by
  refine lanes_back (pBin b) ld _ fun x => ?_
  have h1 := gatP_apply b (k0_pay13 (k0_pay9 ld) (k0_pay10 ld) (k0_pay11 ld)) (low13 _ _ _) x
  have h2 := gatP_apply b (k0_pay14 (k0_pay9 ld) (k0_pay10 ld) (k0_pay11 ld)) (hi14 _ _ _) x
  exact (congrArg₂ (settle (k0_pay12 (k0_pay9 ld) (k0_pay10 ld) (k0_pay11 ld) x) (k0_pay8 ld x)) h1 h2)

theorem lanes27 (b : S255.Idx → F .f32) (ld : Vec F S1x16 .f32) :
    (shapeCast S1x16 (k0_pay27 (k0_pay21 ld) (k0_pay22 ld) (gatP b (k0_pay24 ld) (hi24 _))
      (k0_pay25 ld (gatP b (k0_pay23 ld) (low23 _))) (k0_pay26 ld))
      shapeCasts_S16_S1x16 : S1x16.Idx → BitVec 32) = fun y => pBin b (ld y) := by
  refine lanes_back (pBin b) ld _ fun x => ?_
  have h1 := gatP_apply b (k0_pay23 ld) (low23 _) x
  have h2 := gatP_apply b (k0_pay24 ld) (hi24 _) x
  exact (congrArg₂ (settle (k0_pay22 ld x) (k0_pay21 ld x)) h1 h2)

/-! ## The trip -/

section Trip

variable (d : Dev nD) (L : grid0.Coords) (fe fp : S8x128.Idx → F .f32) (be bp : S255.Idx → F .f32) (ge gp : S8x128.Idx → BitVec 32)
  (t : Fin k0_t1_loop.trips)

/-- The two windows' bins, stored over a row buffer. -/
abbrev ideW : S8x128.Idx → BitVec 32 :=
  stE (F := F) (r5 t) (fun y : S1x16.Idx => eBin be (ldE (r41 t) fe y)) (stE (F := F) (r3 t) (fun y : S1x16.Idx => eBin be (ldE (r2 t) fe y)) ge)
abbrev idpW : S8x128.Idx → BitVec 32 :=
  stP (F := F) (r6 t) (fun y : S1x16.Idx => pBin bp (ldP (r5 t) fp y)) (stP (F := F) (r40 t) (fun y : S1x16.Idx => pBin bp (ldP (r3 t) fp y)) gp)

set_option maxHeartbeats 400000 in
theorem trip_wp (v18 z : BitVec 32) (Q : _ → sProp 𝕄) :
    iprop(teP d L fe ∗ tpP d L fp ∗ ebP d L be ∗ pbP d L bp ∗ ideP (F := F) d L ge ∗ idpP (F := F) d L gp ∗
        (teP d L fe -∗ tpP d L fp -∗ ebP d L be -∗ pbP d L bp -∗ ideP (F := F) d L (ideW fe be ge t) -∗ idpP (F := F) d L (idpW fp bp gp t) -∗ ∀ a, Q a))
      ⊢ wp frame (wpE (defs₀ (F := F)) 𝒱₀ (thr d L) none) Set.univ
          (k0_t1_body L a2V (Memref.isWhole_whole _) a3V (Memref.isWhole_whole _) a4V (Memref.isWhole_whole _) a5V (Memref.isWhole_whole _)
            a6V (Memref.isWhole_whole _) a7V (Memref.isWhole_whole _) teV (Memref.isWhole_whole _) tpV (Memref.isWhole_whole _)
            ideV (Memref.isWhole_whole _) idpV (Memref.isWhole_whole _) ebV (Memref.isWhole_whole _) pbV (Memref.isWhole_whole _)
            cc0_scratch6 cc0_scratch7 cc0_scratch8 v18 t z) Q := by
  unfold k0_t1_body
  iintro ⟨H8, H9, H12, H13, H10, H11, Hk⟩
  rw [wp_bind]
  iapply (part1_wp d L fe t) $$ [H8 H9 H12 H13 H10 H11 Hk]
  isplitl [H8]; iexact H8
  iintro H8 %a1 %b1 %c1
  dsimp only
  rw [wp_bind]
  iapply (part2_wp d L fp be ge t) $$ [H8 H9 H12 H13 H10 H11 Hk]
  isplitl [H9]; iexact H9
  isplitl [H12]; iexact H12
  isplitl [H10]; iexact H10
  iintro H9 H12 H10
  dsimp only
  rw [wp_bind]
  iapply (part3_wp d L bp gp t) $$ [H8 H9 H12 H13 H10 H11 Hk]
  isplitl [H13]; iexact H13
  isplitl [H11]; iexact H11
  iintro H13 H11 %a2 %b2 %c2 %e2 %z2
  dsimp only
  rw [wp_bind]
  iapply (part4_wp d L fe be t) $$ [H8 H9 H12 H13 H10 H11 Hk]
  isplitl [H8]; iexact H8
  isplitl [H12]; iexact H12
  iintro H8 H12 %a3
  dsimp only
  rw [wp_bind]
  iapply (part5_wp d L fp bp _ t) $$ [H8 H9 H12 H13 H10 H11 Hk]
  isplitl [H9]; iexact H9
  isplitl [H13]; iexact H13
  isplitl [H10]; iexact H10
  iintro H9 H13 H10
  dsimp only
  rw [lanes7, lanes15, lanes20, lanes27]
  unfold idpP idpV
  sl_exec
  sl_step
  ispecialize Hk $$ H8
  ispecialize Hk $$ H9
  ispecialize Hk $$ H12
  ispecialize Hk $$ H13
  ispecialize Hk $$ H10
  ihave H11 := (show idpP (F := F) d L ((Memref.whole cc0_scratch3).view.writes (Elt F) (stP (r40 t) (fun y : S1x16.Idx => pBin bp (ldP (r3 t) fp y)) gp)
      [⟨r6 t, fun y : S1x16.Idx => pBin bp (ldP (r5 t) fp y)⟩]) ⊢ idpP (F := F) d L (idpW fp bp gp t) from .rfl) $$ H11
  ispecialize Hk $$ H11
  iapply Hk

end Trip

section Invariant

variable (d : Dev nD) (L : grid0.Coords) (fe fp : S8x128.Idx → F .f32) (be bp : S255.Idx → F .f32)

/-- The places of a row buffer that the first `t` trips have written: trip `t` writes thirty-two in a row. -/
abbrev Done (t : ℕ) (x : S8x128.Idx) : Prop := (x 0).val * 128 + (x 1).val < 32 * t

/-- What the loop keeps: the targets and the boundaries, and the bins of the places done. -/
def inv (t : ℕ) (_ : BitVec 32) : sProp 𝕄 :=
  iprop(teP d L fe ∗ tpP d L fp ∗ ebP d L be ∗ pbP d L bp ∗
    (∃ g : S8x128.Idx → BitVec 32, ideP (F := F) d L g ∗ ⌜∀ x, Done t x → g x = eBin be (fe x)⌝) ∗
    (∃ g : S8x128.Idx → BitVec 32, idpP (F := F) d L g ∗ ⌜∀ x, Done t x → g x = pBin bp (fp x)⌝))

omit [FloatOps F] in
/-- Two sixteen-lane windows side by side written over a row buffer bring its next thirty-two places. -/
theorem two_writes (v : View sig .scVector .vmem S8x128 .i32) (G : S8x128.Idx → BitVec 32) (f : v.ty.Contents (Elt F)) (t : ℕ)
    (oa ob : Fin 2 → ℕ) (ia : ∀ a, oa a + S1x16.size a ≤ S8x128.size a) (ib : ∀ a, ob a + S1x16.size a ≤ S8x128.size a)
    (wa wb : S1x16.Idx → BitVec 32)
    (hao : oa = ![t / 4, (t % 4) * 32]) (hbo : ob = ![t / 4, (t % 4) * 32 + 16])
    (ha : ∀ y, wa y = G ((Rect.unit (s := S8x128) oa S1x16.size ia).emb y)) (hb : ∀ y, wb y = G ((Rect.unit (s := S8x128) ob S1x16.size ib).emb y))
    (hf : ∀ x, Done t x → v.read (Elt F) f x = G x) (x : S8x128.Idx) (hx : Done (t + 1) x) :
    v.read (Elt F) (v.writes (Elt F) f [⟨Rect.unit (s := S8x128) ob S1x16.size ib, wb⟩, ⟨Rect.unit (s := S8x128) oa S1x16.size ia, wa⟩]) x = G x := by
  by_cases hxb : x ∈ (Rect.unit (s := S8x128) ob S1x16.size ib).set
  · obtain ⟨y, rfl⟩ := (Rect.unit (s := S8x128) ob S1x16.size ib).exists_idx_of_mem hxb
    exact (View.read_writes_cons_emb v f _ wb _ y).trans (hb y)
  · rw [View.read_writes_cons_miss v f ⟨Rect.unit (s := S8x128) ob S1x16.size ib, wb⟩ _ x hxb]
    by_cases hxa : x ∈ (Rect.unit (s := S8x128) oa S1x16.size ia).set
    · obtain ⟨y, rfl⟩ := (Rect.unit (s := S8x128) oa S1x16.size ia).exists_idx_of_mem hxa
      exact (View.read_writes_cons_emb v f _ wa _ y).trans (ha y)
    · rw [View.read_writes_cons_miss v f ⟨Rect.unit (s := S8x128) oa S1x16.size ia, wa⟩ _ x hxa]
      refine hf x ?_
      rw [Rect.mem_set_unit] at hxa hxb
      subst hao hbo
      by_contra hn
      have h1 := (x 1).isLt
      change (x 1).val < 128 at h1
      unfold Done at *
      by_cases hc : (x 1).val < (t % 4) * 32 + 16
      · refine hxa fun a => ?_
        match a with
        | 0 => exact show t / 4 ≤ (x 0).val ∧ (x 0).val < t / 4 + 1 by omega
        | 1 => exact show t % 4 * 32 ≤ (x 1).val ∧ (x 1).val < t % 4 * 32 + 16 by omega
      · refine hxb fun a => ?_
        match a with
        | 0 => exact show t / 4 ≤ (x 0).val ∧ (x 0).val < t / 4 + 1 by omega
        | 1 => exact show t % 4 * 32 + 16 ≤ (x 1).val ∧ (x 1).val < t % 4 * 32 + 16 + 16 by omega

omit [FloatOps F] in
theorem ldE_at (f : S8x128.Idx → F .f32) (oa ob : Fin 2 → ℕ) (ia : ∀ a, oa a + S1x16.size a ≤ S8x128.size a) (ib : ∀ a, ob a + S1x16.size a ≤ S8x128.size a)
    (h : oa = ob) (y : S1x16.Idx) : ldE (Rect.unit (s := S8x128) oa S1x16.size ia) f y = f ((Rect.unit (s := S8x128) ob S1x16.size ib).emb y) := by
  subst h; rfl

theorem ideW_done (ge : S8x128.Idx → BitVec 32) (t : Fin k0_t1_loop.trips) (h : ∀ x, Done t.val x → ge x = eBin be (fe x)) (x : S8x128.Idx)
    (hx : Done (t.val + 1) x) : ideW fe be ge t x = eBin be (fe x) :=
  two_writes (F := F) ideV.view (fun x => eBin be (fe x)) ge t.val (k0_off3 t) (k0_off5 t) (k0_off3_inb t) (k0_off5_inb t)
    (fun y => eBin be (ldE (r2 t) fe y)) (fun y => eBin be (ldE (r41 t) fe y)) (off3_eq t) (off5_eq t)
    (fun y => congrArg (eBin be) (ldE_at fe _ _ _ (k0_off3_inb t) ((off2_eq t).trans (off3_eq t).symm) y))
    (fun y => congrArg (eBin be) (ldE_at fe _ _ _ (k0_off5_inb t) ((off4_1_eq t).trans (off5_eq t).symm) y)) h x hx

theorem idpW_done (gp : S8x128.Idx → BitVec 32) (t : Fin k0_t1_loop.trips) (h : ∀ x, Done t.val x → gp x = pBin bp (fp x)) (x : S8x128.Idx)
    (hx : Done (t.val + 1) x) : idpW fp bp gp t x = pBin bp (fp x) :=
  two_writes (F := F) idpV.view (fun x => pBin bp (fp x)) gp t.val (k0_off4 t 0#32) (k0_off6 t) (k0_off4_inb t 0) (k0_off6_inb t)
    (fun y => pBin bp (ldP (r3 t) fp y)) (fun y => pBin bp (ldP (r5 t) fp y)) (off4_0_eq t) (off6_eq t)
    (fun y => congrArg (pBin bp) (ldE_at fp _ _ _ (k0_off4_inb t 0) ((off3_eq t).trans (off4_0_eq t).symm) y))
    (fun y => congrArg (pBin bp) (ldE_at fp _ _ _ (k0_off6_inb t) ((off5_eq t).trans (off6_eq t).symm) y)) h x hx

theorem trip (t : Fin k0_t1_loop.trips) (v18 z : BitVec 32) :
    inv d L fe fp be bp t.val z
      ⊢ wp frame (wpE (defs₀ (F := F)) 𝒱₀ (thr d L) none) Set.univ
          (k0_t1_body L a2V (Memref.isWhole_whole _) a3V (Memref.isWhole_whole _) a4V (Memref.isWhole_whole _) a5V (Memref.isWhole_whole _)
            a6V (Memref.isWhole_whole _) a7V (Memref.isWhole_whole _) teV (Memref.isWhole_whole _) tpV (Memref.isWhole_whole _)
            ideV (Memref.isWhole_whole _) idpV (Memref.isWhole_whole _) ebV (Memref.isWhole_whole _) pbV (Memref.isWhole_whole _)
            cc0_scratch6 cc0_scratch7 cc0_scratch8 v18 t z) (inv d L fe fp be bp (t.val + 1)) := by
  unfold inv
  iintro ⟨H8, H9, H12, H13, ⟨%ge, H10, %he⟩, ⟨%gp, H11, %hp⟩⟩
  iapply (trip_wp d L fe fp be bp ge gp t)
  isplitl [H8]; iexact H8
  isplitl [H9]; iexact H9
  isplitl [H12]; iexact H12
  isplitl [H13]; iexact H13
  isplitl [H10]; iexact H10
  isplitl [H11]; iexact H11
  iintro H8 H9 H12 H13 H10 H11 %a
  isplitl [H8]; iexact H8
  isplitl [H9]; iexact H9
  isplitl [H12]; iexact H12
  isplitl [H13]; iexact H13
  isplitl [H10]
  · iexists _
    isplitl [H10]; iexact H10
    ipureintro; exact ideW_done fe be ge t he
  · iexists _
    isplitl [H11]; iexact H11
    ipureintro; exact idpW_done fp bp gp t hp

end Invariant

end Cert.Proof.Sc

end
-- ==== Proof.Tile.lean ====
/- The kernel's body on one vector subcore, from the copies in to the copies out. -/
module

public import proofs.«01_k».proof.Proof.Lanes
public import Idealize.ShloMosaic.Lib.ValueIdxCore

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The windows the copies move -/

theorem inb_row (r : Fin 8) : ∀ a, (![r.val, 0] : Fin 2 → ℕ) a + S1x128.size a ≤ S8x128.size a := by
  revert r; decide

abbrev eWin (L : grid0.Coords) : Memref sig .scVector .hbm S8x128 .f32 := (a2V.slice (inRect L) (fun _ => rfl)).squeeze S8x128 squeezes_S1x1x8x128_S8x128
abbrev pWin (L : grid0.Coords) : Memref sig .scVector .hbm S8x128 .f32 := (a3V.slice (inRect L) (fun _ => rfl)).squeeze S8x128 squeezes_S1x1x8x128_S8x128
abbrev ieWin (L : grid0.Coords) (r : Fin 8) : Memref sig .scVector .hbm S128 .i32 := (a6V.slice (rowRect L r) (fun _ => rfl)).squeeze S128 squeezes_S1x1x128_S128
abbrev ipWin (L : grid0.Coords) (r : Fin 8) : Memref sig .scVector .hbm S128 .i32 := (a7V.slice (rowRect L r) (fun _ => rfl)).squeeze S128 squeezes_S1x1x128_S128
abbrev srcRect (r : Fin 8) : Rect S8x128 := Rect.unit (s := S8x128) ![r.val, 0] S1x128.size (inb_row r)
abbrev ideWin (r : Fin 8) : Memref sig .scVector .vmem S128 .i32 := (ideV.slice (srcRect r) (fun _ => rfl)).squeeze S128 squeezes_S1x128_S128
abbrev idpWin (r : Fin 8) : Memref sig .scVector .vmem S128 .i32 := (idpV.slice (srcRect r) (fun _ => rfl)).squeeze S128 squeezes_S1x128_S128

section Run

variable (d : Dev nD) (L : grid0.Coords)

/-- A copy landed: the destination's elements holding what the source's held, the source back. -/
abbrev landed {s : Shape} {e : EltTy} {sp sp' : Space} (src : Memref sig .scVector sp s e) (dst : Memref sig .scVector sp' s e) (q : PosShare TreeShare)
    (fs : Buf (Elt F) (src.view.loc (thr d L))) (fd : Buf (Elt F) (dst.view.loc (thr d L))) : sProp 𝕄 :=
  iprop((dst.view.loc (thr d L) ↦[dst.view.set]{fullShare} dst.view.writes (Elt F) fd [⟨Rect.whole s, ReadAs.same.apply (src.view.read (Elt F) fs)⟩])
    ∗ src.view.loc (thr d L) ↦[src.view.set]{q} fs)

/-- The two boundary arrays copied in, and the two targets. -/
abbrev delivB (fb : S255.Idx → F .f32) (fb' : S255.Idx → F .f32) (be bp : S255.Idx → F .f32) : Fin 2 → sProp 𝕄
  | 0 => landed d L a4V ebV (tokV L) be fb
  | 1 => landed d L a5V pbV (tokV L) bp fb'
abbrev delivT (ft ft' : S8x128.Idx → F .f32) (e4 p4 : S2x16x8x128.Idx → F .f32) : Fin 2 → sProp 𝕄
  | 0 => landed d L (eWin L) teV fullShare e4 ft
  | 1 => landed d L (pWin L) tpV fullShare p4 ft'

instance delivB_storable (fb fb' be bp : S255.Idx → F .f32) (t : Fin 2) : BI.Storable (upEmb : UEmb _ 𝕄) (delivB d L fb fb' be bp t) :=
  match t with
  | 0 => inferInstanceAs (BI.Storable (upEmb : UEmb _ 𝕄) (landed d L a4V ebV (tokV L) be fb))
  | 1 => inferInstanceAs (BI.Storable (upEmb : UEmb _ 𝕄) (landed d L a5V pbV (tokV L) bp fb'))
instance delivT_storable (ft ft' : S8x128.Idx → F .f32) (e4 p4 : S2x16x8x128.Idx → F .f32) (t : Fin 2) :
    BI.Storable (upEmb : UEmb _ 𝕄) (delivT d L ft ft' e4 p4 t) :=
  match t with
  | 0 => inferInstanceAs (BI.Storable (upEmb : UEmb _ 𝕄) (landed d L (eWin L) teV fullShare e4 ft))
  | 1 => inferInstanceAs (BI.Storable (upEmb : UEmb _ 𝕄) (landed d L (pWin L) tpV fullShare p4 ft'))

theorem landed_te (ft : S8x128.Idx → F .f32) (w : S8x128.Idx → F .f32) :
    (teV.view.loc (thr d L) ↦[teV.view.set]{fullShare} teV.view.writes (Elt F) ft [⟨Rect.whole S8x128, ReadAs.same.apply w⟩] : sProp 𝕄) = teP d L w := by
  rw [← View.write_univ_eq_writes_whole, show teV.view.set = Finset.univ from View.set_whole _]
  exact congrArg (teP d L) (View.write_whole_univ _ _ _)
theorem landed_tp (ft : S8x128.Idx → F .f32) (w : S8x128.Idx → F .f32) :
    (tpV.view.loc (thr d L) ↦[tpV.view.set]{fullShare} tpV.view.writes (Elt F) ft [⟨Rect.whole S8x128, ReadAs.same.apply w⟩] : sProp 𝕄) = tpP d L w := by
  rw [← View.write_univ_eq_writes_whole, show tpV.view.set = Finset.univ from View.set_whole _]
  exact congrArg (tpP d L) (View.write_whole_univ _ _ _)
theorem landed_eb (ft : S255.Idx → F .f32) (w : S255.Idx → F .f32) :
    (ebV.view.loc (thr d L) ↦[ebV.view.set]{fullShare} ebV.view.writes (Elt F) ft [⟨Rect.whole S255, ReadAs.same.apply w⟩] : sProp 𝕄) = ebP d L w := by
  rw [← View.write_univ_eq_writes_whole, show ebV.view.set = Finset.univ from View.set_whole _]
  exact congrArg (ebP d L) (View.write_whole_univ _ _ _)
theorem landed_pb (ft : S255.Idx → F .f32) (w : S255.Idx → F .f32) :
    (pbV.view.loc (thr d L) ↦[pbV.view.set]{fullShare} pbV.view.writes (Elt F) ft [⟨Rect.whole S255, ReadAs.same.apply w⟩] : sProp 𝕄) = pbP d L w := by
  rw [← View.write_univ_eq_writes_whole, show pbV.view.set = Finset.univ from View.set_whole _]
  exact congrArg (pbP d L) (View.write_whole_univ _ _ _)

/-! ## A row buffer by rows -/

omit [FloatOps F] in
theorem bigSep_8 (Φ : Fin 8 → sProp 𝕄) : bigSep Finset.univ Φ = iprop(Φ 0 ∗ Φ 1 ∗ Φ 2 ∗ Φ 3 ∗ Φ 4 ∗ Φ 5 ∗ Φ 6 ∗ Φ 7) :=
  BI.bigSep_univ_eq_bigSepL [0, 1, 2, 3, 4, 5, 6, 7] (by decide) (by decide) Φ

omit [FloatOps F] in
theorem mem_srcRect (r : Fin 8) (x : S8x128.Idx) : x ∈ (srcRect r).set ↔ (x 0).val = r.val := by
  rw [Rect.mem_set_unit]
  constructor
  · intro h; have := h 0; change r.val ≤ (x 0).val ∧ (x 0).val < r.val + 1 at this; omega
  · intro h a
    match a with
    | 0 => exact show r.val ≤ (x 0).val ∧ (x 0).val < r.val + 1 by omega
    | 1 => exact ⟨Nat.zero_le _, by have := (x 1).isLt; show (x 1).val < 0 + 128; change (x 1).val < 128 at this; omega⟩

omit [FloatOps F] in
theorem srcRect_union : (Finset.univ.biUnion fun r : Fin 8 => (srcRect r).set) = (Finset.univ : Finset S8x128.Idx) := by
  ext x
  simp only [Finset.mem_biUnion, Finset.mem_univ, true_and, iff_true]
  exact ⟨⟨(x 0).val, (x 0).isLt⟩, (mem_srcRect _ x).mpr rfl⟩

omit [FloatOps F] in
theorem srcRect_disj : ∀ r ∈ (Finset.univ : Finset (Fin 8)), ∀ r' ∈ (Finset.univ : Finset (Fin 8)), r ≠ r' → Disjoint (srcRect r).set (srcRect r').set := by
  intro r _ r' _ h
  rw [Finset.disjoint_left]
  intro x hx hx'
  exact h (Fin.ext (((mem_srcRect r x).mp hx).symm.trans ((mem_srcRect r' x).mp hx')))

omit [FloatOps F] in
theorem set_ideWin (r : Fin 8) : (ideWin r).view.set = (srcRect r).set := by
  show ((ideV.view.slice (srcRect r)).reshape S128 squeezes_S1x128_S128.numel_eq).set = _
  rw [View.set_reshape]; exact View.set_slice_whole _ _
omit [FloatOps F] in
theorem set_idpWin (r : Fin 8) : (idpWin r).view.set = (srcRect r).set := by
  show ((idpV.view.slice (srcRect r)).reshape S128 squeezes_S1x128_S128.numel_eq).set = _
  rw [View.set_reshape]; exact View.set_slice_whole _ _

abbrev ideR (g : S8x128.Idx → BitVec 32) (r : Fin 8) : sProp 𝕄 :=
  (ideWin r).view.loc (thr d L) ↦[(ideWin r).view.set]{fullShare} (g : Buf (Elt F) ((ideWin r).view.loc (thr d L)))
abbrev idpR (g : S8x128.Idx → BitVec 32) (r : Fin 8) : sProp 𝕄 :=
  (idpWin r).view.loc (thr d L) ↦[(idpWin r).view.set]{fullShare} (g : Buf (Elt F) ((idpWin r).view.loc (thr d L)))

theorem ide_rows (g : S8x128.Idx → BitVec 32) : ideP (F := F) d L g = bigSep Finset.univ (ideR (F := F) d L g) := by
  have h := pointsTo_biUnion (ℓ := ideV.view.loc (thr d L)) (q := fullShare) (Val := Elt F) (f := g)
    (Ix := HIx 1) (Name := ℕ) (U := UU) (Lvl := ℕ) (Finset.univ : Finset (Fin 8)) (fun r => (srcRect r).set) srcRect_disj
  rw [srcRect_union] at h
  refine h.trans (BI.bigSep_congr fun r _ => ?_)
  unfold ideR; rw [set_ideWin]
theorem idp_rows (g : S8x128.Idx → BitVec 32) : idpP (F := F) d L g = bigSep Finset.univ (idpR (F := F) d L g) := by
  have h := pointsTo_biUnion (ℓ := idpV.view.loc (thr d L)) (q := fullShare) (Val := Elt F) (f := g)
    (Ix := HIx 1) (Name := ℕ) (U := UU) (Lvl := ℕ) (Finset.univ : Finset (Fin 8)) (fun r => (srcRect r).set) srcRect_disj
  rw [srcRect_union] at h
  refine h.trans (BI.bigSep_congr fun r _ => ?_)
  unfold idpR; rw [set_idpWin]

abbrev ieR (f : S16x16x128.Idx → BitVec 32) (r : Fin 8) : sProp 𝕄 :=
  (ieWin L r).view.loc (thr d L) ↦[(ieWin L r).view.set]{fullShare} (f : Buf (Elt F) ((ieWin L r).view.loc (thr d L)))
abbrev ipR (f : S16x16x128.Idx → BitVec 32) (r : Fin 8) : sProp 𝕄 :=
  (ipWin L r).view.loc (thr d L) ↦[(ipWin L r).view.set]{fullShare} (f : Buf (Elt F) ((ipWin L r).view.loc (thr d L)))

/-- The sixteen rows copied out, in the order in which they are issued. -/
abbrev landE (ie : S16x16x128.Idx → BitVec 32) (ge : S8x128.Idx → BitVec 32) (r : Fin 8) : sProp 𝕄 := landed (F := F) d L (ideWin r) (ieWin L r) fullShare ge ie
abbrev landP (ip : S16x16x128.Idx → BitVec 32) (gp : S8x128.Idx → BitVec 32) (r : Fin 8) : sProp 𝕄 := landed (F := F) d L (idpWin r) (ipWin L r) fullShare gp ip
abbrev delivW (ie ip : S16x16x128.Idx → BitVec 32) (ge gp : S8x128.Idx → BitVec 32) : Fin 16 → sProp 𝕄
  | 0 => landE (F := F) d L ie ge 0
  | 1 => landP (F := F) d L ip gp 0
  | 2 => landE (F := F) d L ie ge 1
  | 3 => landP (F := F) d L ip gp 1
  | 4 => landE (F := F) d L ie ge 2
  | 5 => landP (F := F) d L ip gp 2
  | 6 => landE (F := F) d L ie ge 3
  | 7 => landP (F := F) d L ip gp 3
  | 8 => landE (F := F) d L ie ge 4
  | 9 => landP (F := F) d L ip gp 4
  | 10 => landE (F := F) d L ie ge 5
  | 11 => landP (F := F) d L ip gp 5
  | 12 => landE (F := F) d L ie ge 6
  | 13 => landP (F := F) d L ip gp 6
  | 14 => landE (F := F) d L ie ge 7
  | 15 => landP (F := F) d L ip gp 7
  | ⟨n + 16, h⟩ => absurd h (by omega)
instance landE_storable (ie : S16x16x128.Idx → BitVec 32) (ge : S8x128.Idx → BitVec 32) (r : Fin 8) :
    BI.Storable (upEmb : UEmb _ 𝕄) (landE (F := F) d L ie ge r) := inferInstance
instance landP_storable (ie : S16x16x128.Idx → BitVec 32) (ge : S8x128.Idx → BitVec 32) (r : Fin 8) :
    BI.Storable (upEmb : UEmb _ 𝕄) (landP (F := F) d L ie ge r) := inferInstance
instance delivW_storable (ie ip : S16x16x128.Idx → BitVec 32) (ge gp : S8x128.Idx → BitVec 32) (t : Fin 16) :
    BI.Storable (upEmb : UEmb _ 𝕄) (delivW (F := F) d L ie ip ge gp t) :=
  match t with
  | 0 => landE_storable d L ie ge 0
  | 1 => landP_storable d L ip gp 0
  | 2 => landE_storable d L ie ge 1
  | 3 => landP_storable d L ip gp 1
  | 4 => landE_storable d L ie ge 2
  | 5 => landP_storable d L ip gp 2
  | 6 => landE_storable d L ie ge 3
  | 7 => landP_storable d L ip gp 3
  | 8 => landE_storable d L ie ge 4
  | 9 => landP_storable d L ip gp 4
  | 10 => landE_storable d L ie ge 5
  | 11 => landP_storable d L ip gp 5
  | 12 => landE_storable d L ie ge 6
  | 13 => landP_storable d L ip gp 6
  | 14 => landE_storable d L ie ge 7
  | 15 => landP_storable d L ip gp 7
  | ⟨n + 16, h⟩ => absurd h (by omega)

/-! ## What the rows carry -/

omit [FloatOps F] in
theorem off1_eq : ∀ L : grid0.Coords, k0_off1 L = ![wid L / 16, wid L % 16, 0, 0] := by decide +kernel
omit [FloatOps F] in
theorem off7_eq : ∀ (L : grid0.Coords) (r : Fin 8), k0_off7 L (BitVec.ofNat 32 r.val) = ![8 * (wid L / 16) + r.val, wid L % 16, 0] := by decide +kernel

omit [FloatOps F] in
theorem re_128 (h : S128.numel = S1x1x128.numel) (j : S128.Idx) : Shape.reshapeEquiv h j = (ValueIdx.ix3 (n2 := 128) (0 : Fin 1) (0 : Fin 1) (j 0) : S1x1x128.Idx) :=
  Shape.reshapeEquiv_eq_of_rowMajor h ((Shape.rowMajor_val_three _).trans (.trans (by
    show ((0 * 1 + 0) * 128 + (j 0).val) = (j 0).val
    omega) (Shape.rowMajor_val_one _).symm))
omit [FloatOps F] in
theorem re_1x128 (h : S128.numel = S1x128.numel) (j : S128.Idx) : Shape.reshapeEquiv h j = (ValueIdx.ix2 (n1 := 128) (0 : Fin 1) (j 0) : S1x128.Idx) :=
  Shape.reshapeEquiv_eq_of_rowMajor h ((Shape.rowMajor_val_two _).trans (.trans (by
    show (0 * 128 + (j 0).val) = (j 0).val
    omega) (Shape.rowMajor_val_one _).symm))
omit [FloatOps F] in
theorem re_8x128 (h : S8x128.numel = S1x1x8x128.numel) (j : S8x128.Idx) : Shape.reshapeEquiv h j = (ValueIdx.ix4 (n2 := 8) (n3 := 128) (0 : Fin 1) (0 : Fin 1) (j 0) (j 1) : S1x1x8x128.Idx) :=
  Shape.reshapeEquiv_eq_of_rowMajor h ((Shape.rowMajor_val_four _).trans (.trans (by
    show (((0 * 1 + 0) * 8 + (j 0).val) * 128 + (j 1).val) = (j 0).val * 128 + (j 1).val
    omega) (Shape.rowMajor_val_two _).symm))

omit [FloatOps F] in
/-- Where entry `j` of row `r` comes from, by way of the staging buffers. -/
theorem back (r : Fin 8) (j : S128.Idx) :
    (inRect L).emb (Shape.reshapeEquiv squeezes_S1x1x8x128_S8x128.numel_eq ((srcRect r).emb (Shape.reshapeEquiv squeezes_S1x128_S128.numel_eq j)))
      = ix4 ((rowRect L r).emb (Shape.reshapeEquiv squeezes_S1x1x128_S128.numel_eq j)) := by
  rw [re_128, re_1x128, re_8x128]
  have h1 := off1_eq L
  have h7 := off7_eq L r
  have hr := r.isLt
  funext a
  apply Fin.ext
  match a with
  | 0 =>
    show k0_off1 L 0 + 1 * 0 = (k0_off7 L (BitVec.ofNat 32 r.val) 0 + 1 * 0) / 8
    rw [h1, h7]; show wid L / 16 + 1 * 0 = (8 * (wid L / 16) + r.val + 1 * 0) / 8; omega
  | 1 =>
    show k0_off1 L 1 + 1 * 0 = k0_off7 L (BitVec.ofNat 32 r.val) 1 + 1 * 0
    rw [h1, h7]; rfl
  | 2 =>
    show k0_off1 L 2 + 1 * (r.val + 1 * 0) = (k0_off7 L (BitVec.ofNat 32 r.val) 0 + 1 * 0) % 8
    rw [h1, h7]; show 0 + 1 * (r.val + 1 * 0) = (8 * (wid L / 16) + r.val + 1 * 0) % 8; omega
  | 3 =>
    show k0_off1 L 3 + 1 * (0 + 1 * (j 0).val) = k0_off7 L (BitVec.ofNat 32 r.val) 2 + 1 * (j 0).val
    rw [h1, h7]; show 0 + 1 * (0 + 1 * (j 0).val) = 0 + 1 * (j 0).val; omega

/-- The bins of a whole block of targets, laid out as the kernel lays them out. -/
def eOf (be : S255.Idx → F .f32) (e4 : S2x16x8x128.Idx → F .f32) (p : S16x16x128.Idx) : BitVec 32 := eBin be (e4 (ix4 p))
def pOf (bp : S255.Idx → F .f32) (p4 : S2x16x8x128.Idx → F .f32) (p : S16x16x128.Idx) : BitVec 32 := pBin bp (p4 (ix4 p))

omit [FloatOps F] in
theorem done_all (x : S8x128.Idx) : Done 32 x := by
  have h0 := (x 0).isLt; have h1 := (x 1).isLt
  show (x 0).val * 128 + (x 1).val < 32 * 32
  change (x 0).val < 8 at h0; change (x 1).val < 128 at h1; omega

theorem landed_ie (ie : S16x16x128.Idx → BitVec 32) (g : S8x128.Idx → BitVec 32) (be : S255.Idx → F .f32) (e4 : S2x16x8x128.Idx → F .f32)
    (hg : ∀ x, Done 32 x → g x = eBin be ((eWin L).view.read (Elt F) e4 x)) (r : Fin 8) :
    ((ieWin L r).view.loc (thr d L) ↦[(ieWin L r).view.set]{fullShare}
        (ieWin L r).view.writes (Elt F) ie [⟨Rect.whole S128, ReadAs.same.apply ((ideWin r).view.read (Elt F) g)⟩] : sProp 𝕄)
      = ieRow (F := F) d L (eOf be e4) r := by
  rw [← View.write_univ_eq_writes_whole]
  refine (pointsTo_congr (g := eOf be e4) fun i hi => ?_).trans ?_
  · obtain ⟨j, -, rfl⟩ := Finset.mem_map.mp hi
    rw [View.write_emb_of_mem _ _ (Finset.mem_univ j)]
    show g ((srcRect r).emb (Shape.reshapeEquiv squeezes_S1x128_S128.numel_eq j)) = eBin be (e4 (ix4 ((rowRect L r).emb (Shape.reshapeEquiv squeezes_S1x1x128_S128.numel_eq j))))
    rw [hg _ (done_all _), ← back]
    try rfl
  · unfold ieRow
    rw [show (ieWin L r).view.set = (rowRect L r).set from by
      show ((a6V.view.slice (rowRect L r)).reshape S128 squeezes_S1x1x128_S128.numel_eq).set = _
      rw [View.set_reshape]; exact View.set_slice_whole _ _]

theorem landed_ip (ip : S16x16x128.Idx → BitVec 32) (g : S8x128.Idx → BitVec 32) (bp : S255.Idx → F .f32) (p4 : S2x16x8x128.Idx → F .f32)
    (hg : ∀ x, Done 32 x → g x = pBin bp ((pWin L).view.read (Elt F) p4 x)) (r : Fin 8) :
    ((ipWin L r).view.loc (thr d L) ↦[(ipWin L r).view.set]{fullShare}
        (ipWin L r).view.writes (Elt F) ip [⟨Rect.whole S128, ReadAs.same.apply ((idpWin r).view.read (Elt F) g)⟩] : sProp 𝕄)
      = ipRow (F := F) d L (pOf bp p4) r := by
  rw [← View.write_univ_eq_writes_whole]
  refine (pointsTo_congr (g := pOf bp p4) fun i hi => ?_).trans ?_
  · obtain ⟨j, -, rfl⟩ := Finset.mem_map.mp hi
    rw [View.write_emb_of_mem _ _ (Finset.mem_univ j)]
    show g ((srcRect r).emb (Shape.reshapeEquiv squeezes_S1x128_S128.numel_eq j)) = pBin bp (p4 (ix4 ((rowRect L r).emb (Shape.reshapeEquiv squeezes_S1x1x128_S128.numel_eq j))))
    rw [hg _ (done_all _), ← back]
    try rfl
  · unfold ipRow
    rw [show (ipWin L r).view.set = (rowRect L r).set from by
      show ((a7V.view.slice (rowRect L r)).reshape S128 squeezes_S1x1x128_S128.numel_eq).set = _
      rw [View.set_reshape]; exact View.set_slice_whole _ _]

variable (e4 p4 : S2x16x8x128.Idx → F .f32) (be bp : S255.Idx → F .f32) (ie ip : S16x16x128.Idx → BitVec 32)
  (ft ft' : S8x128.Idx → F .f32) (fb fb' : S255.Idx → F .f32) (ge gp : S8x128.Idx → BitVec 32)
  (O : CellTallies nD τ sig (HIx 1)) (W : Waits sig (HIx 1))

set_option maxHeartbeats 1000000 in
theorem body_run :
    iprop(((eWin L).view.loc (thr d L) ↦[(eWin L).view.set]{fullShare} (e4 : Buf (Elt F) ((eWin L).view.loc (thr d L))))
        ∗ ((pWin L).view.loc (thr d L) ↦[(pWin L).view.set]{fullShare} (p4 : Buf (Elt F) ((pWin L).view.loc (thr d L))))
        ∗ (a4V.view.loc (thr d L) ↦[a4V.view.set]{tokV L} (be : Buf (Elt F) (a4V.view.loc (thr d L))))
        ∗ (a5V.view.loc (thr d L) ↦[a5V.view.set]{tokV L} (bp : Buf (Elt F) (a5V.view.loc (thr d L))))
        ∗ (teV.view.loc (thr d L) ↦[teV.view.set]{fullShare} (ft : Buf (Elt F) (teV.view.loc (thr d L))))
        ∗ (tpV.view.loc (thr d L) ↦[tpV.view.set]{fullShare} (ft' : Buf (Elt F) (tpV.view.loc (thr d L))))
        ∗ (ebV.view.loc (thr d L) ↦[ebV.view.set]{fullShare} (fb : Buf (Elt F) (ebV.view.loc (thr d L))))
        ∗ (pbV.view.loc (thr d L) ↦[pbV.view.set]{fullShare} (fb' : Buf (Elt F) (pbV.view.loc (thr d L))))
        ∗ ideP (F := F) d L ge ∗ idpP (F := F) d L gp
        ∗ bigSep Finset.univ (ieR (F := F) d L ie) ∗ bigSep Finset.univ (ipR (F := F) d L ip)
        ∗ semVal (thr d L, SemLoc.dma cc0_scratch6.sem) 0 ∗ semVal (thr d L, SemLoc.dma cc0_scratch7.sem) 0
        ∗ semVal (thr d L, SemLoc.dma cc0_scratch8.sem) 0
        ∗ owes (thr d L) O W ∗ Transfers.MayWaits (thr d L) (default : HIx 1) O)
      ⊢ wp frame (wpE (defs₀ (F := F)) 𝒱₀ (thr d L) none) Set.univ
          (cc0__sc_bucketize_body L a2V (Memref.isWhole_whole _) a3V (Memref.isWhole_whole _) a4V (Memref.isWhole_whole _) a5V (Memref.isWhole_whole _)
            a6V (Memref.isWhole_whole _) a7V (Memref.isWhole_whole _) teV (Memref.isWhole_whole _) tpV (Memref.isWhole_whole _)
            ideV (Memref.isWhole_whole _) idpV (Memref.isWhole_whole _) ebV (Memref.isWhole_whole _) pbV (Memref.isWhole_whole _)
            cc0_scratch6 cc0_scratch7 cc0_scratch8) fun _ => iprop(
        ((eWin L).view.loc (thr d L) ↦[(eWin L).view.set]{fullShare} (e4 : Buf (Elt F) ((eWin L).view.loc (thr d L))))
        ∗ ((pWin L).view.loc (thr d L) ↦[(pWin L).view.set]{fullShare} (p4 : Buf (Elt F) ((pWin L).view.loc (thr d L))))
        ∗ (a4V.view.loc (thr d L) ↦[a4V.view.set]{tokV L} (be : Buf (Elt F) (a4V.view.loc (thr d L))))
        ∗ (a5V.view.loc (thr d L) ↦[a5V.view.set]{tokV L} (bp : Buf (Elt F) (a5V.view.loc (thr d L))))
        ∗ (∃ f, teP d L f) ∗ (∃ f, tpP d L f) ∗ (∃ f, ebP d L f) ∗ (∃ f, pbP d L f)
        ∗ (∃ f, ideP (F := F) d L f) ∗ (∃ f, idpP (F := F) d L f)
        ∗ bigSep Finset.univ (ieRow (F := F) d L (eOf be e4)) ∗ bigSep Finset.univ (ipRow (F := F) d L (pOf bp p4))
        ∗ semVal (thr d L, SemLoc.dma cc0_scratch6.sem) 0 ∗ semVal (thr d L, SemLoc.dma cc0_scratch7.sem) 0
        ∗ semVal (thr d L, SemLoc.dma cc0_scratch8.sem) 0
        ∗ ∃ W', ⌜∀ p ∈ W', p ∈ W ∨ p.2 = none⌝ ∗ owes (thr d L) O W') := by
  rw [cc0__sc_bucketize_body_eq_skeleton]
  unfold cc0__sc_bucketize_body_skel
  rw [k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton]
  unfold k0_part6_skel k0_part7_skel k0_part8_skel k0_part9_skel k0_part10_skel k0_part11_skel k0_part12_skel k0_part13_skel k0_part14_skel k0_part15_skel a2V a3V a4V a5V teV tpV ebV pbV
  iintro ⟨He, Hp, Hb, Hb', Hte, Htp, Hfb, Hfb', Hide, Hidp, Hie, Hip, HsT, HsB, HsW, HO, Hmw⟩
  imod (Transfers.batch_alloc' (Lvl := ℕ) (countersEmb (U := UU)) (thr d L) (default : HIx 1) (ebV.view.amount (SemLoc.dma (sig := sig) cc0_scratch7.sem))
    (delivB d L fb fb' be bp) (sm := .dma cc0_scratch7.sem) (E := Set.univ)) $$ HsB with HB
  imod (Transfers.batch_alloc' (Lvl := ℕ) (countersEmb (U := UU)) (thr d L) (default : HIx 1) (teV.view.amount (SemLoc.dma (sig := sig) cc0_scratch6.sem))
    (delivT d L ft ft' e4 p4) (sm := .dma cc0_scratch6.sem) (E := Set.univ)) $$ HsT with HT
  sl_exec
  ihave Hte := (Entails.of_eq (landed_te d L ft _)) $$ HT_dst0
  ihave Htp := (Entails.of_eq (landed_tp d L ft' _)) $$ HT_dst1
  ihave Heb := (Entails.of_eq (landed_eb d L fb _)) $$ HB_dst0
  ihave Hpb := (Entails.of_eq (landed_pb d L fb' _)) $$ HB_dst1
  rw [bind_assoc]
  sl_for (inv d L ((eWin L).view.read (Elt F) e4) ((pWin L).view.read (Elt F) p4) be bp) $$ [Hte Htp Heb Hpb Hide Hidp]
  case region =>
    intro k z
    exact trip d L _ _ be bp k _ z
  · unfold inv
    isplitl [Hte]; iexact Hte
    isplitl [Htp]; iexact Htp
    isplitl [Heb]; iexact Heb
    isplitl [Hpb]; iexact Hpb
    isplitl [Hide]
    · iexists ge; isplitl [Hide]; iexact Hide
      ipureintro; intro x hx; exact absurd hx (Nat.not_lt_zero _)
    · iexists gp; isplitl [Hidp]; iexact Hidp
      ipureintro; intro x hx; exact absurd hx (Nat.not_lt_zero _)
  iintro %z HI
  rw [show Scf.trips k0_t1_loop.lb k0_t1_loop.ub k0_t1_loop.st = 32 from trips_eq]
  unfold inv
  icases HI with ⟨Hte, Htp, Heb, Hpb, ⟨%g, Hide, %hg⟩, ⟨%g', Hidp, %hg'⟩⟩
  ihave Hide := (Entails.of_eq ((ide_rows d L g).trans (bigSep_8 _))) $$ Hide
  ihave Hidp := (Entails.of_eq ((idp_rows d L g').trans (bigSep_8 _))) $$ Hidp
  ihave Hie := (Entails.of_eq (bigSep_8 _)) $$ Hie
  ihave Hip := (Entails.of_eq (bigSep_8 _)) $$ Hip
  icases Hide with ⟨Hs0, Hs1, Hs2, Hs3, Hs4, Hs5, Hs6, Hs7⟩
  icases Hidp with ⟨Ht0, Ht1, Ht2, Ht3, Ht4, Ht5, Ht6, Ht7⟩
  icases Hie with ⟨Hu0, Hu1, Hu2, Hu3, Hu4, Hu5, Hu6, Hu7⟩
  icases Hip with ⟨Hv0, Hv1, Hv2, Hv3, Hv4, Hv5, Hv6, Hv7⟩
  imod (Transfers.batch_alloc' (Lvl := ℕ) (countersEmb (U := UU)) (thr d L) (default : HIx 1) ((ieWin L 0).view.amount (SemLoc.dma (sig := sig) cc0_scratch8.sem))
    (delivW d L ie ip g g') (sm := .dma cc0_scratch8.sem) (E := Set.univ)) $$ HsW with HW
  sl_exec
  ihave HR0 := (Entails.of_eq (landed_ie d L ie g be e4 hg 0)) $$ HW_dst0
  ihave HS0 := (Entails.of_eq (landed_ip d L ip g' bp p4 hg' 0)) $$ HW_dst1
  ihave HR1 := (Entails.of_eq (landed_ie d L ie g be e4 hg 1)) $$ HW_dst2
  ihave HS1 := (Entails.of_eq (landed_ip d L ip g' bp p4 hg' 1)) $$ HW_dst3
  ihave HR2 := (Entails.of_eq (landed_ie d L ie g be e4 hg 2)) $$ HW_dst4
  ihave HS2 := (Entails.of_eq (landed_ip d L ip g' bp p4 hg' 2)) $$ HW_dst5
  ihave HR3 := (Entails.of_eq (landed_ie d L ie g be e4 hg 3)) $$ HW_dst6
  ihave HS3 := (Entails.of_eq (landed_ip d L ip g' bp p4 hg' 3)) $$ HW_dst7
  ihave HR4 := (Entails.of_eq (landed_ie d L ie g be e4 hg 4)) $$ HW_dst8
  ihave HS4 := (Entails.of_eq (landed_ip d L ip g' bp p4 hg' 4)) $$ HW_dst9
  ihave HR5 := (Entails.of_eq (landed_ie d L ie g be e4 hg 5)) $$ HW_dst10
  ihave HS5 := (Entails.of_eq (landed_ip d L ip g' bp p4 hg' 5)) $$ HW_dst11
  ihave HR6 := (Entails.of_eq (landed_ie d L ie g be e4 hg 6)) $$ HW_dst12
  ihave HS6 := (Entails.of_eq (landed_ip d L ip g' bp p4 hg' 6)) $$ HW_dst13
  ihave HR7 := (Entails.of_eq (landed_ie d L ie g be e4 hg 7)) $$ HW_dst14
  ihave HS7 := (Entails.of_eq (landed_ip d L ip g' bp p4 hg' 7)) $$ HW_dst15
  ihave HR := (Entails.of_eq (bigSep_8 (ieRow (F := F) d L (eOf be e4))).symm) $$ [HR0 HR1 HR2 HR3 HR4 HR5 HR6 HR7]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexact HR7
  ihave HS := (Entails.of_eq (bigSep_8 (ipRow (F := F) d L (pOf bp p4))).symm) $$ [HS0 HS1 HS2 HS3 HS4 HS5 HS6 HS7]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  ihave HG := (Entails.of_eq ((ide_rows d L g).trans (bigSep_8 _)).symm) $$ [HW_src0 HW_src2 HW_src4 HW_src6 HW_src8 HW_src10 HW_src12 HW_src14]
  · isplitl [HW_src0]; · iexact HW_src0
    isplitl [HW_src2]; · iexact HW_src2
    isplitl [HW_src4]; · iexact HW_src4
    isplitl [HW_src6]; · iexact HW_src6
    isplitl [HW_src8]; · iexact HW_src8
    isplitl [HW_src10]; · iexact HW_src10
    isplitl [HW_src12]; · iexact HW_src12
    iexact HW_src14
  ihave HG' := (Entails.of_eq ((idp_rows d L g').trans (bigSep_8 _)).symm) $$ [HW_src1 HW_src3 HW_src5 HW_src7 HW_src9 HW_src11 HW_src13 HW_src15]
  · isplitl [HW_src1]; · iexact HW_src1
    isplitl [HW_src3]; · iexact HW_src3
    isplitl [HW_src5]; · iexact HW_src5
    isplitl [HW_src7]; · iexact HW_src7
    isplitl [HW_src9]; · iexact HW_src9
    isplitl [HW_src11]; · iexact HW_src11
    isplitl [HW_src13]; · iexact HW_src13
    iexact HW_src15
  rw [wp_ret]
  imodintro
  isplitl [HT_src0]; · iexact HT_src0
  isplitl [HT_src1]; · iexact HT_src1
  isplitl [HB_src0]; · iexact HB_src0
  isplitl [HB_src1]; · iexact HB_src1
  isplitl [Hte]; · iexists _; iexact Hte
  isplitl [Htp]; · iexists _; iexact Htp
  isplitl [Heb]; · iexists _; iexact Heb
  isplitl [Hpb]; · iexists _; iexact Hpb
  isplitl [HG]; · iexists _; iexact HG
  isplitl [HG']; · iexists _; iexact HG'
  isplitl [HR]; · iexact HR
  isplitl [HS]; · iexact HS
  isplitl [HT]; · iexact HT
  isplitl [HB]; · iexact HB
  isplitl [HW]; · iexact HW
  iexists _
  isplitr
  swap
  · iexact HO
  · ipureintro
    intro p hp
    repeat (rcases Finset.mem_insert.mp hp with hp | hp; · exact .inr (hp ▸ rfl))
    exact .inl hp

end Run

end Cert.Proof.Sc

end
-- ==== Proof.Obl.lean ====
/- The task of one vector subcore as the launch asks for it. -/
module

public import proofs.«01_k».proof.Proof.Tile

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Task

variable (d : Dev nD) (L : grid0.Coords)

/-! ## What a subcore owns: the three cells and the six buffers its task uses, and the rest -/

abbrev cell (k : DmaSem sig) : GSem nD τ sig := (thr d L, SemLoc.dma k)
abbrev kT : DmaSem sig := cc0_scratch6.sem
abbrev kB : DmaSem sig := cc0_scratch7.sem
abbrev kW : DmaSem sig := cc0_scratch8.sem

omit [FloatOps F] in
theorem cell_ne {k k' : DmaSem sig} (h : k ≠ k') : cell d L k ≠ cell d L k' := fun e => h (by injection (Prod.mk.inj e).2)

omit [FloatOps F] in
theorem cell_own {k : DmaSem sig} (h : (SemLoc.dma k : SemLoc sig).isScoped .scVector = true) : cell d L k ∈ ownCells (thr d L) :=
  mem_ownCells.mpr ⟨rfl, h⟩

omit [FloatOps F] in
theorem ownSems_V :
    (ownSems0 (thr d L) : sProp 𝕄)
      = iprop(semVal (cell d L kT) 0 ∗ semVal (cell d L kB) 0 ∗ semVal (cell d L kW) 0
          ∗ bigSep ((((ownCells (thr d L)).erase (cell d L kT)).erase (cell d L kB)).erase (cell d L kW)) fun g => semVal g 0) := by
  unfold SparseCore.Cfg.ownSems0
  rw [SparseCore.bigSep_erase' (cell_own d L (k := kT) (by decide)),
    SparseCore.bigSep_erase' (Finset.mem_erase.mpr ⟨cell_ne d L (by decide), cell_own d L (k := kB) (by decide)⟩),
    SparseCore.bigSep_erase' (Finset.mem_erase.mpr ⟨cell_ne d L (by decide), Finset.mem_erase.mpr ⟨cell_ne d L (by decide), cell_own d L (k := kW) (by decide)⟩⟩)]

abbrev bufOf (b : Ref sig .scVector) : DevRef τ sig := (Proc.scVector (cV L) (jV L)).devRef b
abbrev somePts (b : Ref sig .scVector) : sProp 𝕄 := iprop(∃ f, (thr d L).loc b ↦{fullShare} f)

omit [FloatOps F] in
theorem bufOf_ne {b b' : Ref sig .scVector} (h : b ≠ b') : bufOf L b ≠ bufOf L b' := fun e => h (Proc.devRef_injective _ e)

abbrev restBufs : Finset (DevRef τ sig) :=
  ((((((ownRefs (τ := τ) (.scVector (cV L) (jV L))).erase (bufOf L cc0_scratch0)).erase (bufOf L cc0_scratch1)).erase (bufOf L cc0_scratch2)).erase
    (bufOf L cc0_scratch3)).erase (bufOf L cc0_scratch4)).erase (bufOf L cc0_scratch5)

omit [FloatOps F] in
theorem ownBufs_V :
    (ownBufs (thr d L) : sProp 𝕄)
      = iprop(somePts d L cc0_scratch0 ∗ somePts d L cc0_scratch1 ∗ somePts d L cc0_scratch2 ∗ somePts d L cc0_scratch3
          ∗ somePts d L cc0_scratch4 ∗ somePts d L cc0_scratch5
          ∗ bigSep (restBufs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := bufOf L cc0_scratch0) rfl)).trans ?_
  rw [SparseCore.bigSep_erase' (Finset.mem_erase.mpr ⟨bufOf_ne L (by decide),
      SparseCore.Cfg.mem_ownRefs_of_owner (p := Proc.scVector (cV L) (jV L)) (b := bufOf L cc0_scratch1) rfl⟩),
    SparseCore.bigSep_erase' (Finset.mem_erase.mpr ⟨bufOf_ne L (by decide), Finset.mem_erase.mpr ⟨bufOf_ne L (by decide),
      SparseCore.Cfg.mem_ownRefs_of_owner (p := Proc.scVector (cV L) (jV L)) (b := bufOf L cc0_scratch2) rfl⟩⟩),
    SparseCore.bigSep_erase' (Finset.mem_erase.mpr ⟨bufOf_ne L (by decide), Finset.mem_erase.mpr ⟨bufOf_ne L (by decide), Finset.mem_erase.mpr ⟨bufOf_ne L (by decide),
      SparseCore.Cfg.mem_ownRefs_of_owner (p := Proc.scVector (cV L) (jV L)) (b := bufOf L cc0_scratch3) rfl⟩⟩⟩),
    SparseCore.bigSep_erase' (Finset.mem_erase.mpr ⟨bufOf_ne L (by decide), Finset.mem_erase.mpr ⟨bufOf_ne L (by decide), Finset.mem_erase.mpr ⟨bufOf_ne L (by decide),
      Finset.mem_erase.mpr ⟨bufOf_ne L (by decide), SparseCore.Cfg.mem_ownRefs_of_owner (p := Proc.scVector (cV L) (jV L)) (b := bufOf L cc0_scratch4) rfl⟩⟩⟩⟩),
    SparseCore.bigSep_erase' (Finset.mem_erase.mpr ⟨bufOf_ne L (by decide), Finset.mem_erase.mpr ⟨bufOf_ne L (by decide), Finset.mem_erase.mpr ⟨bufOf_ne L (by decide),
      Finset.mem_erase.mpr ⟨bufOf_ne L (by decide), Finset.mem_erase.mpr ⟨bufOf_ne L (by decide),
        SparseCore.Cfg.mem_ownRefs_of_owner (p := Proc.scVector (cV L) (jV L)) (b := bufOf L cc0_scratch5) rfl⟩⟩⟩⟩⟩)]

/-! ## The launch's names of the arrays and the body's -/

omit [FloatOps F] in
theorem set_eWin : (eWin L).view.set = (inRect L).set := by
  show ((a2V.view.slice (inRect L)).reshape S8x128 squeezes_S1x1x8x128_S8x128.numel_eq).set = _
  rw [View.set_reshape]; exact View.set_slice_whole _ _
omit [FloatOps F] in
theorem set_pWin : (pWin L).view.set = (inRect L).set := by
  show ((a3V.view.slice (inRect L)).reshape S8x128 squeezes_S1x1x8x128_S8x128.numel_eq).set = _
  rw [View.set_reshape]; exact View.set_slice_whole _ _
omit [FloatOps F] in
theorem set_ieWin (r : Fin 8) : (ieWin L r).view.set = (rowRect L r).set := by
  show ((a6V.view.slice (rowRect L r)).reshape S128 squeezes_S1x1x128_S128.numel_eq).set = _
  rw [View.set_reshape]; exact View.set_slice_whole _ _
omit [FloatOps F] in
theorem set_ipWin (r : Fin 8) : (ipWin L r).view.set = (rowRect L r).set := by
  show ((a7V.view.slice (rowRect L r)).reshape S128 squeezes_S1x1x128_S128.numel_eq).set = _
  rw [View.set_reshape]; exact View.set_slice_whole _ _

omit [FloatOps F] in
theorem pts_e (f : S2x16x8x128.Idx → F .f32) :
    ((eWin L).view.loc (thr d L) ↦[(eWin L).view.set]{fullShare} (f : Buf (Elt F) ((eWin L).view.loc (thr d L))) : sProp 𝕄)
      = v1Loc d ↦[(inRect L).set]{fullShare} (f : Buf (Elt F) (v1Loc d)) := by rw [set_eWin]
omit [FloatOps F] in
theorem pts_p (f : S2x16x8x128.Idx → F .f32) :
    ((pWin L).view.loc (thr d L) ↦[(pWin L).view.set]{fullShare} (f : Buf (Elt F) ((pWin L).view.loc (thr d L))) : sProp 𝕄)
      = v3Loc d ↦[(inRect L).set]{fullShare} (f : Buf (Elt F) (v3Loc d)) := by rw [set_pWin]
omit [FloatOps F] in
theorem pts_b (f : S255.Idx → F .f32) :
    (a4V.view.loc (thr d L) ↦[a4V.view.set]{tokV L} (f : Buf (Elt F) (a4V.view.loc (thr d L))) : sProp 𝕄)
      = ebLoc d ↦{tokV L} (f : Buf (Elt F) (ebLoc d)) := by rw [show a4V.view.set = Finset.univ from View.set_whole _]
omit [FloatOps F] in
theorem pts_b' (f : S255.Idx → F .f32) :
    (a5V.view.loc (thr d L) ↦[a5V.view.set]{tokV L} (f : Buf (Elt F) (a5V.view.loc (thr d L))) : sProp 𝕄)
      = pbLoc d ↦{tokV L} (f : Buf (Elt F) (pbLoc d)) := by rw [show a5V.view.set = Finset.univ from View.set_whole _]
theorem ieR_eq (f : S16x16x128.Idx → BitVec 32) : ieR (F := F) d L f = ieRow (F := F) d L f := by
  funext r; unfold ieR; rw [set_ieWin]
theorem ipR_eq (f : S16x16x128.Idx → BitVec 32) : ipR (F := F) d L f = ipRow (F := F) d L f := by
  funext r; unfold ipR; rw [set_ipWin]

omit [FloatOps F] in
theorem pts_te (f : S8x128.Idx → F .f32) : (teV.view.loc (thr d L) ↦[teV.view.set]{fullShare} (f : Buf (Elt F) (teV.view.loc (thr d L))) : sProp 𝕄)
    = (thr d L).loc cc0_scratch0 ↦{fullShare} f := by rw [show teV.view.set = Finset.univ from View.set_whole _]
omit [FloatOps F] in
theorem pts_tp (f : S8x128.Idx → F .f32) : (tpV.view.loc (thr d L) ↦[tpV.view.set]{fullShare} (f : Buf (Elt F) (tpV.view.loc (thr d L))) : sProp 𝕄)
    = (thr d L).loc cc0_scratch1 ↦{fullShare} f := by rw [show tpV.view.set = Finset.univ from View.set_whole _]
omit [FloatOps F] in
theorem pts_eb (f : S255.Idx → F .f32) : (ebV.view.loc (thr d L) ↦[ebV.view.set]{fullShare} (f : Buf (Elt F) (ebV.view.loc (thr d L))) : sProp 𝕄)
    = (thr d L).loc cc0_scratch4 ↦{fullShare} f := by rw [show ebV.view.set = Finset.univ from View.set_whole _]
omit [FloatOps F] in
theorem pts_pb (f : S255.Idx → F .f32) : (pbV.view.loc (thr d L) ↦[pbV.view.set]{fullShare} (f : Buf (Elt F) (pbV.view.loc (thr d L))) : sProp 𝕄)
    = (thr d L).loc cc0_scratch5 ↦{fullShare} f := by rw [show pbV.view.set = Finset.univ from View.set_whole _]

variable (m : (ℓ : Loc nD τ sig) → Buf (Elt F) ℓ)

set_option maxHeartbeats 1000000 in
/-- The task of vector subcore `(L 0, L 1)`: from its part of the call's operands to its part of the results. -/
theorem tile_body (hF : (K (F := F)).Facts) (O : CellTallies nD τ sig (HIx 1)) (W : Waits sig (HIx 1)) (hO : ∀ g, O g none = 0) :
    iprop(levAts (K (F := F)).L (K (F := F)).lev ∗ emp ∗ tilePts m d L (m (ieLoc d)) (m (ipLoc d))
        ∗ scopedBufs (thr d L) ∗ scopedSems0 (thr d L) ∗ owes (thr d L) O W)
      ⊢ wp frame (wpE (defs₀ (F := F)) 𝒱₀ (thr d L) none) Set.univ
          (cc0__sc_bucketize_body L a2V (Memref.isWhole_whole _) a3V (Memref.isWhole_whole _) a4V (Memref.isWhole_whole _) a5V (Memref.isWhole_whole _)
            a6V (Memref.isWhole_whole _) a7V (Memref.isWhole_whole _) teV (Memref.isWhole_whole _) tpV (Memref.isWhole_whole _)
            ideV (Memref.isWhole_whole _) idpV (Memref.isWhole_whole _) ebV (Memref.isWhole_whole _) pbV (Memref.isWhole_whole _)
            cc0_scratch6 cc0_scratch7 cc0_scratch8)
          fun _ => iprop(tilePts m d L (eRes m d) (pRes m d) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems_V, ownBufs_V]
  iintro ⟨#Hlv, -, ⟨He, Hp, Hb, Hb', Hie, Hip⟩, ⟨⟨%ft, Hte⟩, ⟨%ft', Htp⟩, ⟨%ge, Hge⟩, ⟨%gp, Hgp⟩, ⟨%fb, Hfb⟩, ⟨%fb', Hfb'⟩, Hbufs⟩, ⟨HT, HB, HW, Hsems⟩, HO⟩
  ihave Hmw := (show levAts (K (F := F)).L (K (F := F)).lev ⊢ Transfers.MayWaits (thr d L) (default : HIx 1) O from
    (K (F := F)).mayWaits_none (thr := thr d L) hO) $$ Hlv
  ihave He' := (Entails.of_eq (pts_e (F := F) d L _).symm) $$ He
  ihave Hp' := (Entails.of_eq (pts_p (F := F) d L _).symm) $$ Hp
  ihave Hb1 := (Entails.of_eq (pts_b (F := F) d L _).symm) $$ Hb
  ihave Hb2 := (Entails.of_eq (pts_b' (F := F) d L _).symm) $$ Hb'
  ihave Hte' := (Entails.of_eq (pts_te (F := F) d L ft).symm) $$ Hte
  ihave Htp' := (Entails.of_eq (pts_tp (F := F) d L ft').symm) $$ Htp
  ihave Hfb1 := (Entails.of_eq (pts_eb (F := F) d L fb).symm) $$ Hfb
  ihave Hfb2 := (Entails.of_eq (pts_pb (F := F) d L fb').symm) $$ Hfb'
  ihave Hie' := (Entails.of_eq (congrArg (bigSep Finset.univ) (ieR_eq (F := F) d L (m (ieLoc d)))).symm) $$ Hie
  ihave Hip' := (Entails.of_eq (congrArg (bigSep Finset.univ) (ipR_eq (F := F) d L (m (ipLoc d)))).symm) $$ Hip
  have hrun := body_run d L (et4 m d) (pt4 m d) (m (ebLoc d)) (m (pbLoc d)) (m (ieLoc d)) (m (ipLoc d)) ft ft' fb fb' ge gp O W
  revert hrun
  generalize cc0__sc_bucketize_body (F := F) L a2V _ a3V _ a4V _ a5V _ a6V _ a7V _ teV _ tpV _ ideV _ idpV _ ebV _ pbV _ cc0_scratch6 cc0_scratch7 cc0_scratch8 = prog
  intro hrun
  iapply (wp_wand_r _ _ _)
  isplitl [He' Hp' Hb1 Hb2 Hte' Htp' Hfb1 Hfb2 Hge Hgp Hie' Hip' HT HB HW HO Hmw]
  · iapply hrun
    isplitl [He']; · iexact He'
    isplitl [Hp']; · iexact Hp'
    isplitl [Hb1]; · iexact Hb1
    isplitl [Hb2]; · iexact Hb2
    isplitl [Hte']; · iexact Hte'
    isplitl [Htp']; · iexact Htp'
    isplitl [Hfb1]; · iexact Hfb1
    isplitl [Hfb2]; · iexact Hfb2
    isplitl [Hge]; · iexact Hge
    isplitl [Hgp]; · iexact Hgp
    isplitl [Hie']; · iexact Hie'
    isplitl [Hip']; · iexact Hip'
    isplitl [HT]; · iexact HT
    isplitl [HB]; · iexact HB
    isplitl [HW]; · iexact HW
    isplitl [HO]; · iexact HO
    iexact Hmw
  iintro %_ ⟨He, Hp, Hb, Hb', ⟨%f0, H0⟩, ⟨%f1, H1⟩, ⟨%f4, H4⟩, ⟨%f5, H5⟩, ⟨%f2, H2⟩, ⟨%f3, H3⟩, Hie, Hip, HT, HB, HW, HO⟩
  ihave He' := (Entails.of_eq (pts_e (F := F) d L _)) $$ He
  ihave Hp' := (Entails.of_eq (pts_p (F := F) d L _)) $$ Hp
  ihave Hb1 := (Entails.of_eq (pts_b (F := F) d L _)) $$ Hb
  ihave Hb2 := (Entails.of_eq (pts_b' (F := F) d L _)) $$ Hb'
  isplitl [He' Hp' Hb1 Hb2 Hie Hip]
  · isplitl [He']; · iexact He'
    isplitl [Hp']; · iexact Hp'
    isplitl [Hb1]; · iexact Hb1
    isplitl [Hb2]; · iexact Hb2
    isplitl [Hie]; · iexact Hie
    iexact Hip
  isplitl [H0 H1 H2 H3 H4 H5 Hbufs]
  · isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    iexact Hbufs
  isplitl [HT HB HW Hsems]
  · isplitl [HT]; · iexact HT
    isplitl [HB]; · iexact HB
    isplitl [HW]; · iexact HW
    iexact Hsems
  iexact HO

omit [FloatOps F] in
/-- The waits the task records are at index `none`: a case of what the launch allows. -/
theorem post_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW, HO⟩
  isplitl [HA]; · iexact HA
  isplitl [HB]; · iexact HB
  isplitl [HC]; · iexact HC
  iexists W'; isplitr
  · ipureintro; exact fun p hp => (hW p hp).imp_right Or.inl
  · iexact HO

theorem defs₀_vector (c : Fin τ.nSC) (s : Fin τ.nSub) :
    defs₀ (F := F) (.scVector c s) 0 ()
      = SparseCore.onTile hcore0 hsub0 (fun c s => cc0__sc_bucketize_body (coordsV c s)
          a2V (Memref.isWhole_whole _) a3V (Memref.isWhole_whole _) a4V (Memref.isWhole_whole _) a5V (Memref.isWhole_whole _)
          a6V (Memref.isWhole_whole _) a7V (Memref.isWhole_whole _) teV (Memref.isWhole_whole _) tpV (Memref.isWhole_whole _)
          ideV (Memref.isWhole_whole _) idpV (Memref.isWhole_whole _) ebV (Memref.isWhole_whole _) pbV (Memref.isWhole_whole _)
          cc0_scratch6 cc0_scratch7 cc0_scratch8) ⟨⟩ c s := rfl

end Task

variable (m : (ℓ : Loc nD τ sig) → Buf (Elt F) ℓ)

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  have hb := tile_body d (coordsV ⟨_, hci.1⟩ ⟨_, hci.2⟩) m hF O W hO
  revert hb
  generalize cc0__sc_bucketize_body (F := F) (coordsV ⟨_, hci.1⟩ ⟨_, hci.2⟩) a2V _ a3V _ a4V _ a5V _ a6V _ a7V _ teV _ tpV _ ideV _ idpV _ ebV _ pbV _
    cc0_scratch6 cc0_scratch7 cc0_scratch8 = prog
  intro hb
  exact hb.trans (wp_mono frame _ _ fun _ => post_weaken)

/-- A SparseCore's part is its tiles' parts, before and after. -/
theorem vecSplit : (K (F := F)).VecSplit' (P m) 0 := by
  intro d c
  show corePts m d c (m (ieLoc d)) (m (ipLoc d)) ⊢ |={Set.univ}=> iprop(corePts m d c (m (ieLoc d)) (m (ipLoc d))
    ∗ (corePts m d c (eRes m d) (pRes m d) -∗ corePts m d c (eRes m d) (pRes m d)))
  iintro H; imodintro
  isplitl [H]; · iexact H
  iintro H; iexact H

end Cert.Proof.Sc

end
-- ==== Proof.Split.lean ====
module

public import proofs.«01_k».proof.Proof.Obl
public import Idealize.ShloMosaic.Lib.SparseCore.Launch

/-!
The call's arrays, whole, are the tiles' parts together: the split targets by the tiles' blocks, the results by the
tiles' rows, the boundaries by one read share for each tile.
-/

@[expose] public section
noncomputable section
namespace Cert.Proof.Sc
open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ
variable (m : (ℓ : Loc nD τ sig) → Buf (Elt F) ℓ)

/-- A SparseCore and one of its tiles. -/
abbrev Pair : Type := Fin 2 × Fin 16
abbrev cL (k : Pair) : grid0.Coords := coordsV k.1 k.2

theorem wid_inj : ∀ k k' : Pair, wid (cL k) = wid (cL k') → k = k' := by decide
theorem wid_onto : ∀ n : Fin 32, ∃ k : Pair, wid (cL k) = n.val := by decide
theorem wid_lt : ∀ k : Pair, wid (cL k) < 32 := by decide

theorem mem_inRect (L : grid0.Coords) (x : S2x16x8x128.Idx) :
    x ∈ (inRect L).set ↔ (x 0).val = wid L / 16 ∧ (x 1).val = wid L % 16 := by
  have h2 : (x 2).val < 8 := (x 2).isLt
  have h3 : (x 3).val < 128 := (x 3).isLt
  rw [Rect.mem_set_unit, off1_eq]
  constructor
  · intro h
    have h0 := h (0 : Fin 4); have h1 := h (1 : Fin 4)
    change wid L / 16 ≤ (x 0).val ∧ (x 0).val < wid L / 16 + 1 at h0
    change wid L % 16 ≤ (x 1).val ∧ (x 1).val < wid L % 16 + 1 at h1
    omega
  · rintro ⟨h0, h1⟩ a
    match a with
    | ⟨0, _⟩ => show wid L / 16 ≤ (x 0).val ∧ (x 0).val < wid L / 16 + 1; omega
    | ⟨1, _⟩ => show wid L % 16 ≤ (x 1).val ∧ (x 1).val < wid L % 16 + 1; omega
    | ⟨2, _⟩ => show 0 ≤ (x 2).val ∧ (x 2).val < 0 + 8; omega
    | ⟨3, _⟩ => show 0 ≤ (x 3).val ∧ (x 3).val < 0 + 128; omega

theorem mem_rowRect (L : grid0.Coords) (r : Fin 8) (x : S16x16x128.Idx) :
    x ∈ (rowRect L r).set ↔ (x 0).val = 8 * (wid L / 16) + r.val ∧ (x 1).val = wid L % 16 := by
  have h3 : (x 2).val < 128 := (x 2).isLt
  rw [Rect.mem_set_unit, off7_eq]
  constructor
  · intro h
    have h0 := h (0 : Fin 3); have h1 := h (1 : Fin 3)
    change 8 * (wid L / 16) + r.val ≤ (x 0).val ∧ (x 0).val < 8 * (wid L / 16) + r.val + 1 at h0
    change wid L % 16 ≤ (x 1).val ∧ (x 1).val < wid L % 16 + 1 at h1
    omega
  · rintro ⟨h0, h1⟩ a
    match a with
    | ⟨0, _⟩ => show 8 * (wid L / 16) + r.val ≤ (x 0).val ∧ (x 0).val < 8 * (wid L / 16) + r.val + 1; omega
    | ⟨1, _⟩ => show wid L % 16 ≤ (x 1).val ∧ (x 1).val < wid L % 16 + 1; omega
    | ⟨2, _⟩ => show 0 ≤ (x 2).val ∧ (x 2).val < 0 + 128; omega

theorem in_disj : ∀ k ∈ (Finset.univ : Finset Pair), ∀ k' ∈ (Finset.univ : Finset Pair), k ≠ k' →
    Disjoint (inRect (cL k)).set (inRect (cL k')).set := fun k _ k' _ hne =>
  Finset.disjoint_left.mpr fun x hx hx' => hne (wid_inj k k' (by
    rw [mem_inRect] at hx hx'; omega))

theorem in_cover : (Finset.univ : Finset Pair).biUnion (fun k => (inRect (cL k)).set) = Finset.univ :=
  Finset.eq_univ_iff_forall.mpr fun x => by
    have h0 : (x 0).val < 2 := (x 0).isLt
    have h1 : (x 1).val < 16 := (x 1).isLt
    obtain ⟨k, hk⟩ := wid_onto ⟨16 * (x 0).val + (x 1).val, by omega⟩
    exact Finset.mem_biUnion.mpr ⟨k, Finset.mem_univ _, (mem_inRect _ _).mpr (by rw [hk]; show _ = (16 * (x 0).val + (x 1).val) / 16 ∧ _ = (16 * (x 0).val + (x 1).val) % 16; omega)⟩

theorem row_disj : ∀ k ∈ (Finset.univ : Finset (Pair × Fin 8)), ∀ k' ∈ (Finset.univ : Finset (Pair × Fin 8)), k ≠ k' →
    Disjoint (rowRect (cL k.1) k.2).set (rowRect (cL k'.1) k'.2).set := fun k _ k' _ hne =>
  Finset.disjoint_left.mpr fun x hx hx' => hne (by
    rw [mem_rowRect] at hx hx'
    have h1 := k.2.isLt; have h2 := k'.2.isLt
    exact Prod.ext (wid_inj _ _ (by omega)) (Fin.ext (by omega)))

theorem row_cover : (Finset.univ : Finset (Pair × Fin 8)).biUnion (fun k => (rowRect (cL k.1) k.2).set) = Finset.univ :=
  Finset.eq_univ_iff_forall.mpr fun x => by
    have h0 : (x 0).val < 16 := (x 0).isLt
    have h1 : (x 1).val < 16 := (x 1).isLt
    obtain ⟨k, hk⟩ := wid_onto ⟨16 * ((x 0).val / 8) + (x 1).val, by omega⟩
    refine Finset.mem_biUnion.mpr ⟨(k, ⟨(x 0).val % 8, Nat.mod_lt _ (by decide)⟩), Finset.mem_univ _, (mem_rowRect _ _ _).mpr ?_⟩
    rw [hk]
    show _ = 8 * ((16 * ((x 0).val / 8) + (x 1).val) / 16) + (x 0).val % 8 ∧ _ = (16 * ((x 0).val / 8) + (x 1).val) % 16
    omega

/-- A separating product over the pairs, one SparseCore after the other. -/
theorem bigSep_pairs (Φ : Pair → sProp 𝕄) :
    bigSep Finset.univ Φ = bigSep Finset.univ fun c : Fin 2 => bigSep Finset.univ fun i : Fin 16 => Φ (c, i) := by
  rw [← Finset.univ_product_univ]; exact SparseCore.bigSep_product _ _ _

theorem bigSep_rows (Φ : Pair × Fin 8 → sProp 𝕄) :
    bigSep Finset.univ Φ = bigSep Finset.univ fun k : Pair => bigSep Finset.univ fun r : Fin 8 => Φ (k, r) := by
  rw [← Finset.univ_product_univ]; exact SparseCore.bigSep_product _ _ _

theorem v1_tiles (d : Dev nD) (f : Buf (Elt F) (v1Loc d)) :
    (v1Loc d ↦{fullShare} f : sProp 𝕄) = bigSep Finset.univ fun k : Pair => v1Loc d ↦[(inRect (cL k)).set]{fullShare} f := by
  rw [← pointsTo_biUnion (ℓ := v1Loc d) (Val := Elt F) (f := f) Finset.univ (fun k => (inRect (cL k)).set) in_disj]
  exact congrArg (fun I => (v1Loc d ↦[I]{fullShare} f : sProp 𝕄)) in_cover.symm
theorem v3_tiles (d : Dev nD) (f : Buf (Elt F) (v3Loc d)) :
    (v3Loc d ↦{fullShare} f : sProp 𝕄) = bigSep Finset.univ fun k : Pair => v3Loc d ↦[(inRect (cL k)).set]{fullShare} f := by
  rw [← pointsTo_biUnion (ℓ := v3Loc d) (Val := Elt F) (f := f) Finset.univ (fun k => (inRect (cL k)).set) in_disj]
  exact congrArg (fun I => (v3Loc d ↦[I]{fullShare} f : sProp 𝕄)) in_cover.symm
theorem ie_rows (d : Dev nD) (f : Buf (Elt F) (ieLoc d)) :
    (ieLoc d ↦{fullShare} f : sProp 𝕄) = bigSep Finset.univ fun k : Pair => bigSep Finset.univ fun r : Fin 8 => ieRow d (cL k) f r := by
  rw [← bigSep_rows fun k => ieRow d (cL k.1) f k.2,
    ← pointsTo_biUnion (ℓ := ieLoc d) (Val := Elt F) (f := f) Finset.univ (fun k : Pair × Fin 8 => (rowRect (cL k.1) k.2).set) row_disj]
  exact congrArg (fun I => (ieLoc d ↦[I]{fullShare} f : sProp 𝕄)) row_cover.symm
theorem ip_rows (d : Dev nD) (f : Buf (Elt F) (ipLoc d)) :
    (ipLoc d ↦{fullShare} f : sProp 𝕄) = bigSep Finset.univ fun k : Pair => bigSep Finset.univ fun r : Fin 8 => ipRow d (cL k) f r := by
  rw [← bigSep_rows fun k => ipRow d (cL k.1) f k.2,
    ← pointsTo_biUnion (ℓ := ipLoc d) (Val := Elt F) (f := f) Finset.univ (fun k : Pair × Fin 8 => (rowRect (cL k.1) k.2).set) row_disj]
  exact congrArg (fun I => (ipLoc d ↦[I]{fullShare} f : sProp 𝕄)) row_cover.symm

theorem range_pairs : Finset.range 32 = (Finset.univ : Finset Pair).map ⟨fun k => wid (cL k), fun k k' h => wid_inj k k' h⟩ := by
  ext n
  simp only [Finset.mem_range, Finset.mem_map, Finset.mem_univ, true_and, Function.Embedding.coeFn_mk]
  constructor
  · intro h; exact wid_onto ⟨n, h⟩
  · rintro ⟨k, rfl⟩; exact wid_lt k

theorem shares (ℓ : Loc nD τ sig) (f : Buf (Elt F) ℓ) :
    (ℓ ↦{fullShare} f : sProp 𝕄) ⊣⊢ iprop((ℓ ↦{Transfers.shareDrop fullShare 32} f) ∗ bigSep Finset.univ fun k : Pair => ℓ ↦{tokV (cL k)} f) := by
  have h := Transfers.pointsTo_toks_range (Ix := HIx 1) (Name := ℕ) (U := UU) (Lvl := ℕ) (ℓ := ℓ) (S := Finset.univ) (f := f) fullShare 32
  rw [range_pairs, SparseCore.bigSep_map] at h
  exact h

/-- The six arrays of the call, the results at `fe` and `fp`. -/
abbrev callPts (d : Dev nD) (fe : Buf (Elt F) (ieLoc d)) (fp : Buf (Elt F) (ipLoc d)) : sProp 𝕄 :=
  iprop((v1Loc d ↦{fullShare} et4 m d) ∗ (v3Loc d ↦{fullShare} pt4 m d) ∗ (ebLoc d ↦{fullShare} m (ebLoc d)) ∗ (pbLoc d ↦{fullShare} m (pbLoc d))
    ∗ (ieLoc d ↦{fullShare} fe) ∗ (ipLoc d ↦{fullShare} fp))

/-- What stays with the TensorCore while the tiles read the boundaries. -/
abbrev keptPts (d : Dev nD) : sProp 𝕄 :=
  iprop((ebLoc d ↦{Transfers.shareDrop fullShare 32} m (ebLoc d)) ∗ (pbLoc d ↦{Transfers.shareDrop fullShare 32} m (pbLoc d)))

theorem cores_eq (d : Dev nD) (fe : Buf (Elt F) (ieLoc d)) (fp : Buf (Elt F) (ipLoc d)) :
    (bigSep Finset.univ fun c : Fin 2 => corePts m d c fe fp)
      = iprop((v1Loc d ↦{fullShare} et4 m d) ∗ (v3Loc d ↦{fullShare} pt4 m d)
          ∗ (bigSep Finset.univ fun k : Pair => ebPts m d (cL k)) ∗ (bigSep Finset.univ fun k : Pair => pbPts m d (cL k))
          ∗ (ieLoc d ↦{fullShare} fe) ∗ (ipLoc d ↦{fullShare} fp)) := by
  rw [v1_tiles, v3_tiles, ie_rows, ip_rows, ← bigSep_sep', ← bigSep_sep', ← bigSep_sep', ← bigSep_sep', ← bigSep_sep']
  exact (bigSep_pairs fun k => tilePts m d (cL k) fe fp).symm

theorem call_split (d : Dev nD) (fe : Buf (Elt F) (ieLoc d)) (fp : Buf (Elt F) (ipLoc d)) :
    callPts m d fe fp ⊢ iprop((bigSep Finset.univ fun c : Fin 2 => corePts m d c fe fp) ∗ keptPts m d) := by
  rw [cores_eq]
  iintro ⟨H1, H3, He, Hp, Hie, Hip⟩
  ihave He := (shares (F := F) (ebLoc d) (m (ebLoc d))).1 $$ He
  ihave Hp := (shares (F := F) (pbLoc d) (m (pbLoc d))).1 $$ Hp
  icases He with ⟨He, Hes⟩
  icases Hp with ⟨Hp, Hps⟩
  isplitr [He Hp]
  · isplitl [H1]; · iexact H1
    isplitl [H3]; · iexact H3
    isplitl [Hes]; · iexact Hes
    isplitl [Hps]; · iexact Hps
    isplitl [Hie]; · iexact Hie
    iexact Hip
  · isplitl [He]; · iexact He
    iexact Hp

theorem call_join (d : Dev nD) (fe : Buf (Elt F) (ieLoc d)) (fp : Buf (Elt F) (ipLoc d)) :
    iprop((bigSep Finset.univ fun c : Fin 2 => corePts m d c fe fp) ∗ keptPts m d) ⊢ callPts m d fe fp := by
  rw [cores_eq]
  iintro ⟨⟨H1, H3, Hes, Hps, Hie, Hip⟩, He, Hp⟩
  ihave He := (shares (F := F) (ebLoc d) (m (ebLoc d))).2 $$ [He Hes]
  · isplitl [He]; · iexact He
    iexact Hes
  ihave Hp := (shares (F := F) (pbLoc d) (m (pbLoc d))).2 $$ [Hp Hps]
  · isplitl [Hp]; · iexact Hp
    iexact Hps
  isplitl [H1]; · iexact H1
  isplitl [H3]; · iexact H3
  isplitl [He]; · iexact He
  isplitl [Hp]; · iexact Hp
  isplitl [Hie]; · iexact Hie
  iexact Hip

end Cert.Proof.Sc
end
-- ==== Proof.Region.lean ====
module

public import proofs.«01_k».proof.Proof.Obl
public import Idealize.ShloMosaic.Lib.VecWindow

/-!
The TensorCore's call. At the first grid point the kernel copies the two tables, one above the other, into a scratch
buffer; at every point it adds to the point's block of `x` the product of the blocks' one-hot matrix with that buffer.
-/

@[expose] public section
noncomputable section
namespace Cert.Proof.Sc
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic
open Idealize.ShloMosaic.Pipeline (Dat BodyObligation)

variable {F : FTy → Type}
local notation "𝕄" => MT nD τ sig (HIx 1) (Elt F) ℕ UU ℕ
variable [FloatOps F]

/-- A memref's buffer, held whole. -/
abbrev ptM (c : Dev nD) {sp : Space} {S : Shape} {e : EltTy} (M : Memref sig .tc sp S e) (f : Buf (Elt F) (M.view.loc (c : Thread nD τ))) : sProp 𝕄 :=
  M.view.loc (c : Thread nD τ) ↦{fullShare} f

/-- The test by which the kernel knows the first grid point. -/
def isFirst (i : grid1.Coords) : BitVec 1 :=
  Scalar.cmpi .ne (Scalar.extui (Scalar.cmpi .eq (BitVec.ofNat 32 (i 0).val) 0#32) : BitVec 32) 0#32

/-- The scratch buffer that carries the stacked tables. -/
abbrev scr : Memref sig .tc .vmem S512x512 .bf16 := Memref.whole cc1_scratch0

/-- The two tables, one above the other, in the scratch buffer's float type. -/
def stack (X4 X5 : S256x512.Idx → F .f32) : S512x512.Idx → F .bf16 := fun y =>
  if h : (y 0).val < 256 then k1_pay1 X4 (ValueIdx.ix2 (n0 := 256) (n1 := 512) ⟨(y 0).val, h⟩ (y 1))
  else k1_pay2 X5 (ValueIdx.ix2 (n0 := 256) (n1 := 512) ⟨(y 0).val - 256, by have : (y 0).val < 512 := (y 0).isLt; omega⟩ (y 1))

/-- What a buffer reads after a store of its upper half and one of its lower half. -/
theorem halves_read {Val : EltTy → Type} {κ : Kind} {sp : Space} {e : EltTy} (v : View sig κ sp S512x512 e) (f : v.ty.Contents Val)
    (u w : S256x512.Idx → Val e) (y : S512x512.Idx) :
    v.read Val (v.writes Val f
      [⟨Rect.unit (s := S512x512) ![256, 0] S256x512.size inb_S512x512_S256x512_256_0, w⟩,
        ⟨Rect.unit (s := S512x512) ![0, 0] S256x512.size inb_S512x512_S256x512_0_0, u⟩]) y
      = if h : (y 0).val < 256 then u (ValueIdx.ix2 (n0 := 256) (n1 := 512) ⟨(y 0).val, h⟩ (y 1))
        else w (ValueIdx.ix2 (n0 := 256) (n1 := 512) ⟨(y 0).val - 256, by have : (y 0).val < 512 := (y 0).isLt; omega⟩ (y 1)) := by
  by_cases h : (y 0).val < 256
  · rw [dif_pos h, View.read_writes_cons_unit_of_not_mem v f inb_S512x512_S256x512_256_0 w _ y rfl (0 : Fin 2) (.inl h)]
    exact View.read_writes_cons_unit_of_mem v f inb_S512x512_S256x512_0_0 u _ y _ rfl
      (Fin.forall_fin_two.mpr ⟨by show (y 0).val = 0 + (y 0).val; omega, by show (y 1).val = 0 + (y 1).val; omega⟩)
  · rw [dif_neg h]
    exact View.read_writes_cons_unit_of_mem v f inb_S512x512_S256x512_256_0 w _ y _ rfl
      (Fin.forall_fin_two.mpr ⟨by show (y 0).val = 256 + ((y 0).val - 256); omega, by show (y 1).val = 0 + (y 1).val; omega⟩)

/-- Storing the upper half and then the lower half leaves the stacked tables, whatever the buffer held. -/
theorem stack_written {κ : Kind} {sp : Space} (v : View sig κ sp S512x512 .bf16) (f : v.ty.Contents (Elt F)) (X4 X5 : S256x512.Idx → F .f32) :
    v.read (Elt F) (v.writes (Elt F) f
      [⟨Rect.unit (s := S512x512) ![256, 0] S256x512.size inb_S512x512_S256x512_256_0, k1_pay2 (F := F) X5⟩,
        ⟨Rect.unit (s := S512x512) ![0, 0] S256x512.size inb_S512x512_S256x512_0_0, k1_pay1 (F := F) X4⟩]) = stack (F := F) X4 X5 := by
  funext y
  rw [halves_read (Val := Elt F) v f (k1_pay1 X4) (k1_pay2 X5) y]
  rfl

set_option maxHeartbeats 1000000 in
/-- The kernel at the first grid point. -/
theorem tcRun0 (c : Dev nD) (i : grid1.Coords) (hi : isFirst i = 1#1)
    (M1 : Memref sig .tc .vmem S2x16x128 .i32) (h1 : M1.IsWhole) (M2 : Memref sig .tc .vmem S2x16x128 .i32) (h2 : M2.IsWhole)
    (M3 : Memref sig .tc .vmem S2x2048x512 .f32) (h3 : M3.IsWhole) (M4 : Memref sig .tc .vmem S256x512 .f32) (h4 : M4.IsWhole)
    (M5 : Memref sig .tc .vmem S256x512 .f32) (h5 : M5.IsWhole) (M6 : Memref sig .tc .vmem S2x2048x512 .f32) (h6 : M6.IsWhole)
    (X1 X2 : S2x16x128.Idx → BitVec 32) (X3 X6 : S2x2048x512.Idx → F .f32) (X4 X5 : S256x512.Idx → F .f32)
    (g : S512x512.Idx → F .bf16) (E : Set ℕ) (Q : PUnit → sProp 𝕄) :
      iprop(owns (c : Thread nD τ) M1 fullShare X1 ∗ owns (c : Thread nD τ) M2 fullShare X2 ∗ owns (c : Thread nD τ) M3 fullShare X3 ∗ owns (c : Thread nD τ) M4 fullShare X4
          ∗ owns (c : Thread nD τ) M5 fullShare X5 ∗ owns (c : Thread nD τ) M6 fullShare X6 ∗ ptM c scr g
          ∗ (iprop(owns (c : Thread nD τ) M1 fullShare X1 ∗ owns (c : Thread nD τ) M2 fullShare X2 ∗ owns (c : Thread nD τ) M3 fullShare X3 ∗ owns (c : Thread nD τ) M4 fullShare X4
              ∗ owns (c : Thread nD τ) M5 fullShare X5 ∗ owns (c : Thread nD τ) M6 fullShare (k1_pay3 X1 X2 (stack X4 X5) X3) ∗ ptM c scr (stack X4 X5)) -∗ Q ⟨⟩))
        ⊢ wp frame (wpE (defs₀ (F := F)) Variants.none c none) E
            (cc1__tc_body i M1 h1 M2 h2 M3 h3 M4 h4 M5 h5 M6 h6 scr (Memref.isWhole_whole _)) Q := by
    unfold owns
    iintro ⟨⟨%f1, %e1, H1⟩, ⟨%f2, %e2, H2⟩, ⟨%f3, %e3, H3⟩, ⟨%f4, %e4, H4⟩, ⟨%f5, %e5, H5⟩, ⟨%f6, %e6, H6⟩, H7, Hk⟩
    rw [cc1__tc_body_eq_skeleton]
    unfold cc1__tc_body_skel
    unfold isFirst at hi
    sl_exec!
    sl_step
    have r1 := (View.readAt_full M1.view f1 inb_S2x16x128_S2x16x128_0_0_0).trans e1
    have r2 := (View.readAt_full M2.view f2 inb_S2x16x128_S2x16x128_0_0_0).trans e2
    have r3 := (View.readAt_full M3.view f3 inb_S2x2048x512_S2x2048x512_0_0_0).trans e3
    have r4 := (View.readAt_full M4.view f4 inb_S256x512_S256x512_0_0).trans e4
    have r5 := (View.readAt_full M5.view f5 inb_S256x512_S256x512_0_0).trans e5
    have hs : scr.view.writes (Elt F) scr.view.junk (tcRun0.sl.H7_2 c M4 M5 f4 f5) = stack X4 X5 := by
      delta tcRun0.sl.H7_2
      rw [r4, r5]
      exact (View.read_whole (Val := Elt F) cc1_scratch0 _).symm.trans (stack_written (F := F) scr.view _ X4 X5)
    have hv : tcRun0.sl.v20 c M4 M5 f4 f5 = stack X4 X5 := by
      refine Eq.trans ?_ hs
      delta tcRun0.sl.v20
      exact View.readAt_full scr.view _ inb_S512x512_S512x512_0_0
    have ho : M6.view.read (Elt F) (M6.view.writes (Elt F) M6.view.junk (tcRun0.sl.H6_1 c M1 M2 M3 M4 M5 f1 f2 f3 f4 f5)) = k1_pay3 X1 X2 (stack X4 X5) X3 := by
      delta tcRun0.sl.H6_1
      rw [View.read_writes_full, r1, r2, r3, hv]
    rw [hs]
    iapply Hk
    isplitl [H1]; · iexists f1; isplitr; · (ipureintro; exact e1)
                    iexact H1
    isplitl [H2]; · iexists f2; isplitr; · (ipureintro; exact e2)
                    iexact H2
    isplitl [H3]; · iexists f3; isplitr; · (ipureintro; exact e3)
                    iexact H3
    isplitl [H4]; · iexists f4; isplitr; · (ipureintro; exact e4)
                    iexact H4
    isplitl [H5]; · iexists f5; isplitr; · (ipureintro; exact e5)
                    iexact H5
    isplitl [H6]; · iexists _; isplitr; swap; · iexact H6
                    ipureintro; exact ho
    iexact H7

set_option maxHeartbeats 1000000 in
/-- The kernel at the a later grid point. -/
theorem tcRun1 (c : Dev nD) (i : grid1.Coords) (hi : ¬ isFirst i = 1#1)
    (M1 : Memref sig .tc .vmem S2x16x128 .i32) (h1 : M1.IsWhole) (M2 : Memref sig .tc .vmem S2x16x128 .i32) (h2 : M2.IsWhole)
    (M3 : Memref sig .tc .vmem S2x2048x512 .f32) (h3 : M3.IsWhole) (M4 : Memref sig .tc .vmem S256x512 .f32) (h4 : M4.IsWhole)
    (M5 : Memref sig .tc .vmem S256x512 .f32) (h5 : M5.IsWhole) (M6 : Memref sig .tc .vmem S2x2048x512 .f32) (h6 : M6.IsWhole)
    (X1 X2 : S2x16x128.Idx → BitVec 32) (X3 X6 : S2x2048x512.Idx → F .f32) (X4 X5 : S256x512.Idx → F .f32)
    (g : S512x512.Idx → F .bf16) (E : Set ℕ) (Q : PUnit → sProp 𝕄) :
      iprop(owns (c : Thread nD τ) M1 fullShare X1 ∗ owns (c : Thread nD τ) M2 fullShare X2 ∗ owns (c : Thread nD τ) M3 fullShare X3 ∗ owns (c : Thread nD τ) M4 fullShare X4
          ∗ owns (c : Thread nD τ) M5 fullShare X5 ∗ owns (c : Thread nD τ) M6 fullShare X6 ∗ ptM c scr g
          ∗ (iprop(owns (c : Thread nD τ) M1 fullShare X1 ∗ owns (c : Thread nD τ) M2 fullShare X2 ∗ owns (c : Thread nD τ) M3 fullShare X3 ∗ owns (c : Thread nD τ) M4 fullShare X4
              ∗ owns (c : Thread nD τ) M5 fullShare X5 ∗ owns (c : Thread nD τ) M6 fullShare (k1_pay3 X1 X2 g X3) ∗ ptM c scr (g)) -∗ Q ⟨⟩))
        ⊢ wp frame (wpE (defs₀ (F := F)) Variants.none c none) E
            (cc1__tc_body i M1 h1 M2 h2 M3 h3 M4 h4 M5 h5 M6 h6 scr (Memref.isWhole_whole _)) Q := by
    unfold owns
    iintro ⟨⟨%f1, %e1, H1⟩, ⟨%f2, %e2, H2⟩, ⟨%f3, %e3, H3⟩, ⟨%f4, %e4, H4⟩, ⟨%f5, %e5, H5⟩, ⟨%f6, %e6, H6⟩, H7, Hk⟩
    rw [cc1__tc_body_eq_skeleton]
    unfold cc1__tc_body_skel
    unfold isFirst at hi
    sl_exec!
    sl_step
    have r1 := (View.readAt_full M1.view f1 inb_S2x16x128_S2x16x128_0_0_0).trans e1
    have r2 := (View.readAt_full M2.view f2 inb_S2x16x128_S2x16x128_0_0_0).trans e2
    have r3 := (View.readAt_full M3.view f3 inb_S2x2048x512_S2x2048x512_0_0_0).trans e3
    have hv := View.readAt_full (Val := Elt F) scr.view g inb_S512x512_S512x512_0_0
    have ho : M6.view.read (Elt F) (M6.view.writes (Elt F) M6.view.junk (tcRun1.sl.H6_1 c M1 M2 M3 g f1 f2 f3)) = k1_pay3 X1 X2 g X3 := by
      delta tcRun1.sl.H6_1
      rw [View.read_writes_full, r1, r2, r3, hv]; rfl
    iapply Hk
    isplitl [H1]; · iexists f1; isplitr; · (ipureintro; exact e1)
                    iexact H1
    isplitl [H2]; · iexists f2; isplitr; · (ipureintro; exact e2)
                    iexact H2
    isplitl [H3]; · iexists f3; isplitr; · (ipureintro; exact e3)
                    iexact H3
    isplitl [H4]; · iexists f4; isplitr; · (ipureintro; exact e4)
                    iexact H4
    isplitl [H5]; · iexists f5; isplitr; · (ipureintro; exact e5)
                    iexact H5
    isplitl [H6]; · iexists _; isplitr; swap; · iexact H6
                    ipureintro; exact ho
    iexact H7

end Cert.Proof.Sc
end
-- ==== Proof.Seg.lean ====
module

public import proofs.«01_k».proof.Proof.Region
public import proofs.«01_k».proof.Proof.Gen.KernelIdeal.Launch
public import proofs.«01_k».proof.Proof.Gen.KernelIdeal.Points
public import Idealize.ShloMosaic.Lib.Pipeline.Regions
public import Idealize.ShloMosaic.Lib.Pipeline.FrameBody
public import Idealize.ShloMosaic.Lib.Pipeline.Value
public import Idealize.ShloMosaic.Lib.Pipeline.ValueKit

/-!
The TensorCore's call as a region of @main: what each window's buffer holds at each grid point, and what the result's
array holds at the end.
-/

@[expose] public section
noncomputable section
namespace Cert.Proof.Sc
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic
open Idealize.ShloMosaic.Pipeline (Dat BodyObligation)

variable {F : FTy → Type}
local notation "𝕄" => MT nD τ sig (HIx 1) (Elt F) ℕ UU ℕ
variable [FloatOps F]

theorem first_iff : ∀ t : Fin cfg1.N, isFirst (grid1.coords t) = 1#1 ↔ t.val = 0 :=
  (by decide : ∀ t : Fin grid1.N, isFirst (grid1.coords t) = 1#1 ↔ t.val = 0)

variable (V : (c : Dev nD) → (b : Ref sig .tc) → Buf (Elt F) ((c : Thread nD τ).loc b))

/-- The first bins' block at a grid point: the array at the valuation, read through the block's view. -/
abbrev blk0Of (c : Dev nD) (t : Fin cfg1.N) : S2x16x128.Idx → BitVec 32 :=
  ((cfg1.win 0).blk t).view.read (Elt F) (V c main_v4_0)
/-- The second bins' block at a grid point: the array at the valuation, read through the block's view. -/
abbrev blk1Of (c : Dev nD) (t : Fin cfg1.N) : S2x16x128.Idx → BitVec 32 :=
  ((cfg1.win 1).blk t).view.read (Elt F) (V c main_v4_1)
/-- The addend's block at a grid point: the array at the valuation, read through the block's view. -/
abbrev blk2Of (c : Dev nD) (t : Fin cfg1.N) : S2x2048x512.Idx → F .f32 :=
  ((cfg1.win 2).blk t).view.read (Elt F) (V c main_arg0)
/-- The first table's block at a grid point: the array at the valuation, read through the block's view. -/
abbrev blk3Of (c : Dev nD) (t : Fin cfg1.N) : S256x512.Idx → F .f32 :=
  ((cfg1.win 3).blk t).view.read (Elt F) (V c main_arg5)
/-- The second table's block at a grid point: the array at the valuation, read through the block's view. -/
abbrev blk4Of (c : Dev nD) (t : Fin cfg1.N) : S256x512.Idx → F .f32 :=
  ((cfg1.win 4).blk t).view.read (Elt F) (V c main_arg6)

/-- The stacked tables of the valuation. -/
def stk (c : Dev nD) : S512x512.Idx → F .bf16 := stack (F := F) (V c main_arg5) (V c main_arg6)

/-- What the kernel stores at a grid point. -/
def outB (c : Dev nD) (t : Fin cfg1.N) : S2x2048x512.Idx → F .f32 :=
  k1_pay3 (F := F) (blk0Of V c t) (blk1Of V c t) (stk V c) (blk2Of V c t)

/-- What is known of the scratch buffer before a grid point. -/
def phi (c : Dev nD) (n : ℕ) : sProp 𝕄 :=
  if n = 0 then iprop(∃ f : Buf (Elt F) ((c : Thread nD τ).loc cc1_scratch0), ((c : Thread nD τ).loc cc1_scratch0) ↦{fullShare} f)
  else ptM c scr (stk V c)

theorem phi_zero (c : Dev nD) :
    phi V c 0 = iprop(∃ f : Buf (Elt F) ((c : Thread nD τ).loc cc1_scratch0), ((c : Thread nD τ).loc cc1_scratch0) ↦{fullShare} f) := if_pos rfl
theorem phi_pos (c : Dev nD) (n : ℕ) (h : n ≠ 0) : phi V c n = ptM c scr (stk V c) := if_neg h

/-- The proof data of the region: every window that is read keeps its block, the result's buffer gets the sum, and the
scratch buffer holds the stacked tables after the first point. -/
def dat (c : Dev nD) : Dat τ (Elt F) (HIx 1) ℕ UU ℕ cfg1 c where
  A w := V c (Pipeline.arrRef spec1 w)
  after w t := match w with
    | ⟨0, _⟩ => blk0Of V c t
    | ⟨1, _⟩ => blk1Of V c t
    | ⟨2, _⟩ => blk2Of V c t
    | ⟨3, _⟩ => blk3Of V c t
    | ⟨4, _⟩ => blk4Of V c t
    | ⟨5, _⟩ => outB V c t
  Φ t := phi V c t.val
  q _ := fullShare
  owed _ := 0
  recorded _ := {p | (K (F := F)).lev ((c : Thread nD τ), p.1) p.2 ≤ 8}

theorem before0 (c : Dev nD) (t : Fin cfg1.N) (d) : (dat V c).before 0 t d = blk0Of V c t :=
  ((dat V c).before_in_eq_fetched 0 rfl (fun _ => rfl) (fun _ _ _ => rfl) (fun _ => rfl) t d).trans rfl
theorem before1 (c : Dev nD) (t : Fin cfg1.N) (d) : (dat V c).before 1 t d = blk1Of V c t :=
  ((dat V c).before_in_eq_fetched 1 rfl (fun _ => rfl) (fun _ _ _ => rfl) (fun _ => rfl) t d).trans rfl
theorem before2 (c : Dev nD) (t : Fin cfg1.N) (d) : (dat V c).before 2 t d = blk2Of V c t :=
  ((dat V c).before_in_eq_fetched 2 rfl (fun _ => rfl) (fun _ _ _ => rfl) (fun _ => rfl) t d).trans rfl
theorem before3 (c : Dev nD) (t : Fin cfg1.N) (d) : (dat V c).before 3 t d = blk3Of V c t :=
  ((dat V c).before_in_eq_fetched 3 rfl (fun _ => rfl) (fun _ _ _ => rfl) (fun _ => rfl) t d).trans rfl
theorem before4 (c : Dev nD) (t : Fin cfg1.N) (d) : (dat V c).before 4 t d = blk4Of V c t :=
  ((dat V c).before_in_eq_fetched 4 rfl (fun _ => rfl) (fun _ _ _ => rfl) (fun _ => rfl) t d).trans rfl

theorem idx3 : ∀ t : Fin cfg1.N, (cfg1.win 3).index t = ![0, 0] := fun _ => rfl
theorem idx4 : ∀ t : Fin cfg1.N, (cfg1.win 4).index t = ![0, 0] := fun _ => rfl

theorem blk3 (c : Dev nD) (t : Fin cfg1.N) : blk3Of V c t = V c main_arg5 := by
  funext y
  refine congrArg (V c main_arg5) (funext fun a => Fin.ext ?_)
  blk_simp [idx3]
  match a with
  | ⟨0, _⟩ => show 0 * 256 + (y 0).val = (y 0).val; omega
  | ⟨1, _⟩ => show 0 * 512 + (y 1).val = (y 1).val; omega
theorem blk4 (c : Dev nD) (t : Fin cfg1.N) : blk4Of V c t = V c main_arg6 := by
  funext y
  refine congrArg (V c main_arg6) (funext fun a => Fin.ext ?_)
  blk_simp [idx4]
  match a with
  | ⟨0, _⟩ => show 0 * 256 + (y 0).val = (y 0).val; omega
  | ⟨1, _⟩ => show 0 * 512 + (y 1).val = (y 1).val; omega

set_option maxHeartbeats 1000000 in
theorem body_obligation (c : Dev nD) : BodyObligation (dat V c) (defs₀ (F := F)) 𝒱₀ none Set.univ := fun t => by
  rw [bigSep_W1, bigSep_W1]
  simp only [before0, before1, before2, before3, before4]
  rw [show (dat V c).owesAt none t.succ = (dat V c).owesAt none t.castSucc from rfl]
  have hs : (dat V c).Φ t.succ = ptM c scr (stk V c) := phi_pos V c _ (Nat.succ_ne_zero t.val)
  rw [hs]
  by_cases h : t.val = 0
  · rw [show (dat V c).Φ t.castSucc = phi V c t.val from rfl, h, phi_zero]
    iintro ⟨⟨%g, HΦ⟩, Howes, ⟨%d0, H0⟩, ⟨%d1, H1⟩, ⟨%d2, H2⟩, ⟨%d3, H3⟩, ⟨%d4, H4⟩, ⟨%d5, H5⟩⟩
    iapply (tcRun0 (F := F) c (grid1.coords t) ((first_iff t).mpr h) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3))
      (st1_4 t) (hstage1_4 ((cfg1.slots t 4).cast nbuf1_4)) (st1_5 t) (hstage1_5 ((cfg1.slots t 5).cast nbuf1_5)) (blk0Of V c t) (blk1Of V c t) (blk2Of V c t) _ (blk3Of V c t) (blk4Of V c t) g Set.univ _)
    isplitl [H0]; · iexact H0
    isplitl [H1]; · iexact H1
    isplitl [H2]; · iexact H2
    isplitl [H3]; · iexact H3
    isplitl [H4]; · iexact H4
    isplitl [H5]; · iexact H5
    isplitl [HΦ]; · iexact HΦ
    rw [show (dat V c).after 3 t = V c main_arg5 from blk3 V c t, show (dat V c).after 4 t = V c main_arg6 from blk4 V c t, blk3, blk4]
    iintro ⟨H0, H1, H2, H3, H4, H5, HΦ⟩
    isplitl [HΦ]; · iexact HΦ
    isplitl [Howes]; · iexact Howes
    isplitl [H0]; · iexact H0
    isplitl [H1]; · iexact H1
    isplitl [H2]; · iexact H2
    isplitl [H3]; · iexact H3
    isplitl [H4]; · iexact H4
    iexact H5
  · rw [show (dat V c).Φ t.castSucc = phi V c t.val from rfl, phi_pos V c _ h]
    iintro ⟨HΦ, Howes, ⟨%d0, H0⟩, ⟨%d1, H1⟩, ⟨%d2, H2⟩, ⟨%d3, H3⟩, ⟨%d4, H4⟩, ⟨%d5, H5⟩⟩
    iapply (tcRun1 (F := F) c (grid1.coords t) (fun e => h ((first_iff t).mp e)) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3))
      (st1_4 t) (hstage1_4 ((cfg1.slots t 4).cast nbuf1_4)) (st1_5 t) (hstage1_5 ((cfg1.slots t 5).cast nbuf1_5)) (blk0Of V c t) (blk1Of V c t) (blk2Of V c t) _ (blk3Of V c t) (blk4Of V c t) (stk V c) Set.univ _)
    isplitl [H0]; · iexact H0
    isplitl [H1]; · iexact H1
    isplitl [H2]; · iexact H2
    isplitl [H3]; · iexact H3
    isplitl [H4]; · iexact H4
    isplitl [H5]; · iexact H5
    isplitl [HΦ]; · iexact HΦ
    iintro ⟨H0, H1, H2, H3, H4, H5, HΦ⟩
    isplitl [HΦ]; · iexact HΦ
    isplitl [Howes]; · iexact Howes
    isplitl [H0]; · iexact H0
    isplitl [H1]; · iexact H1
    isplitl [H2]; · iexact H2
    isplitl [H3]; · iexact H3
    isplitl [H4]; · iexact H4
    iexact H5

/-- The call has no table that is fetched ahead. -/
abbrev adm : (p : Fin 1) → (pcfgs (F := F) p).Adm := fun p => (cfgs p).toPCfg_adm

/-- The proof data of @main's one region. -/
def pdats : (p : Fin 1) → (c : Dev nD) → Dat τ (Elt F) (HIx 1) ℕ UU ℕ (Pipeline.pin (pcfgs (F := F)) adm p) c := fun _ c => dat V c

/-- The result's array after the region. -/
def outA (c : Dev nD) : Buf (Elt F) ((c : Thread nD τ).loc main_v5) := (dat V c).arrAt 5 cfg1.N

/-- What the TensorCore owes between statements: nothing, its waits all at levels at most 8. -/
abbrev idleTc (c : Dev nD) : sProp 𝕄 :=
  iprop(∃ W, ⌜(K (F := F)).WBelow (c : Thread nD τ) W 8⌝ ∗ owes (c : Thread nD τ) (0 : CellTallies nD τ sig (HIx 1)) W)

variable (Vp : (c : Dev nD) → (b : Ref sig .tc) → Buf (Elt F) ((c : Thread nD τ).loc b))

set_option maxHeartbeats 1000000 in
set_option backward.isDefEq.respectTransparency.types false in
/-- The region: the buffers at `V` before it, and after it the same but for the result's array. -/
def reg [∀ e, Nonempty (Elt F e)] (hVp_out : ∀ c, Vp c main_v5 = outA V c) (hVp_ne : ∀ c (b : Ref sig .tc), b ≠ main_v5 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ idleTc c)
  post c := iprop(unscopedBufs c (Vp c) ∗ idleTc c)
  X _ := BI.emp
  Y _ := BI.emp
  Z c := iprop(Pipeline.unscopedRest (Ix := HIx 1) (Name := ℕ) (U := UU) (Lvl := ℕ) spec1 c (V c))
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = phi V c 0 from rfl, phi_zero, ← scopedRest1_eq]
    iintro ⟨-, -, Hr⟩; iexact Hr
  hout c := by
    rw [Pipeline.ownSems0_none, show (pdats V 0 c).Φ (Fin.last _) = phi V c 8 from rfl, phi_pos V c 8 (by decide)]
    iintro Hr
    isplitr; · iempintro
    isplitr; · iempintro
    iapply (show ptM c scr (stk V c) ⊢ Pipeline.scopedRest (Ix := HIx 1) (Name := ℕ) (U := UU) (Lvl := ℕ) (Val := Elt F) spec1 c from by
      rw [scopedRest1_eq]; iintro H; iexists _; iexact H)
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v4_0 (by decide)).symm
        · exact ((pdats V 0 c).arrAt_in 1 rfl _).trans (hVp_ne c main_v4_1 (by decide)).symm
        · exact ((pdats V 0 c).arrAt_in 2 rfl _).trans (hVp_ne c main_arg0 (by decide)).symm
        · exact ((pdats V 0 c).arrAt_in 3 rfl _).trans (hVp_ne c main_arg5 (by decide)).symm
        · exact ((pdats V 0 c).arrAt_in 4 rfl _).trans (hVp_ne c main_arg6 (by decide)).symm
        · exact (hVp_out c).symm)
      (fun b hb => hVp_ne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.Proof.Sc
end
-- ==== Proof.Launch.lean ====
module

public import proofs.«01_k».proof.Proof.Split
public import proofs.«01_k».proof.Proof.Seg
public import Idealize.ShloMosaic.Lib.Pipeline.Frame

/-!
@main on the TensorCore: four host operations, the SparseCore's call, the TensorCore's call; and the whole program's
run from any launch memory.
-/

@[expose] public section
noncomputable section
namespace Cert.Proof.Sc
open Cert.KernelIdeal Cert.KernelIdeal.Gen
open Idealize.ShloMosaic Idealize.ShloMosaic.TcCoe
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable [FloatOps F]
variable (m : (ℓ : Loc nD τ sig) → Buf (Elt F) ℓ) (ρ : Dev nD → PrngReg)

/-! ## The launch element -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The region's rounds, on one device. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split (F := F) _ _) $$ Hu
  icases H with ⟨HH, HP⟩
  imod (Pipeline.fund_ghost (Pipeline.pin (pcfgs (F := F)) adm) (EP (F := F)) cellOf_inj) $$ HP with ⟨Hg, Ht⟩
  imodintro
  isplitl [HH]; · iexact HH
  isplitl [Hg Ht]
  · rw [bigSep_sep']
    isplitl [Hg]
    · iapply (Entails.of_eq (bigSep_congr (s := Finset.univ) fun (d : Dev nD) _ =>
        bigSep_univ_of_subsingleton (Φ := fun p : Fin 1 => Pipeline.cellsGhost (Pipeline.pin (pcfgs (F := F)) adm) (EP (F := F)) p d) (0 : Fin 1)))
      iexact Hg
    · iapply (Entails.of_eq (bigSep_congr (s := Finset.univ) fun (d : Dev nD) _ =>
        bigSep_univ_of_subsingleton (Φ := fun p : Fin 1 => Pipeline.toksInit (Pipeline.pin (pcfgs (F := F)) adm) (EP (F := F)) p d) (0 : Fin 1)))
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The valuations between the statements -/

abbrev opE0 : HloOp τ sig (Elt F) := StableHlo.reshape main_arg1 main_v0 (rfl : (.f32 : EltTy) = .f32) shapeCasts_S16x2048_S2x8x16x128
abbrev opE1 : HloOp τ sig (Elt F) := StableHlo.unary main_v0 main_v1
  ((transpose S2x16x8x128 [0, 2, 1, 3] · transposes_S2x8x16x128_S2x16x8x128_0_2_1_3) : (⟨S2x8x16x128, .f32⟩ : BufTy).Contents (Elt F) → (⟨S2x16x8x128, .f32⟩ : BufTy).Contents (Elt F))
abbrev opP0 : HloOp τ sig (Elt F) := StableHlo.reshape main_arg2 main_v2 (rfl : (.f32 : EltTy) = .f32) shapeCasts_S16x2048_S2x8x16x128
abbrev opP1 : HloOp τ sig (Elt F) := StableHlo.unary main_v2 main_v3
  ((transpose S2x16x8x128 [0, 2, 1, 3] · transposes_S2x8x16x128_S2x16x8x128_0_2_1_3) : (⟨S2x8x16x128, .f32⟩ : BufTy).Contents (Elt F) → (⟨S2x16x8x128, .f32⟩ : BufTy).Contents (Elt F))

/-- The launch's valuation, and the one after the four host operations. -/
def V0 (d : Dev nD) : Valuation τ sig (Elt F) := fun b => m (d, b)
def VH (d : Dev nD) : Valuation τ sig (Elt F) :=
  (opP1 (F := F)).result ((opP0 (F := F)).result ((opE1 (F := F)).result ((opE0 (F := F)).result (V0 m d))))

theorem VH_v1 (d : Dev nD) : VH m d (Proc.devRef .tc main_v1) = et4 m d := by
  unfold VH opP1 opP0 opE1 opE0
  rw [StableHlo.unary_result_ne _ _ _ _ _ _ (by decide), StableHlo.reshape_result_ne _ _ _ _ _ _ _ (by decide), StableHlo.unary_result, StableHlo.reshape_result]
  rfl
theorem VH_v3 (d : Dev nD) : VH m d (Proc.devRef .tc main_v3) = pt4 m d := by
  unfold VH opP1 opP0 opE1 opE0
  rw [StableHlo.unary_result, StableHlo.reshape_result, StableHlo.unary_result_ne _ _ _ _ _ _ (by decide), StableHlo.reshape_result_ne _ _ _ _ _ _ _ (by decide)]
  rfl
theorem VH_ne (d : Dev nD) (b : Ref sig .tc) (h0 : b ≠ main_v0) (h1 : b ≠ main_v1) (h2 : b ≠ main_v2) (h3 : b ≠ main_v3) :
    VH m d (Proc.devRef .tc b) = m ((d : Thread nD τ).loc b) := by
  unfold VH opP1 opP0 opE1 opE0
  rw [StableHlo.unary_result_ne _ _ _ _ _ _ h3, StableHlo.reshape_result_ne _ _ _ _ _ _ _ h2, StableHlo.unary_result_ne _ _ _ _ _ _ h1,
    StableHlo.reshape_result_ne _ _ _ _ _ _ _ h0]
  rfl

/-- After the SparseCore's call the two results hold the bins; after the TensorCore's call the result holds the sums. -/
def V1 (c : Dev nD) : (b : Ref sig .tc) → Buf (Elt F) ((c : Thread nD τ).loc b) :=
  Function.update (Function.update (fun b : Ref sig .tc => VH m c (Proc.devRef .tc b)) main_v4_0 (eRes m c)) main_v4_1 (pRes m c)
def V2 (c : Dev nD) : (b : Ref sig .tc) → Buf (Elt F) ((c : Thread nD τ).loc b) := Function.update (V1 m c) main_v5 (outA (V1 m) c)

theorem V1_e (c : Dev nD) : V1 m c main_v4_0 = eRes m c := by
  unfold V1; rw [Function.update_of_ne (by decide), Function.update_self]
theorem V1_p (c : Dev nD) : V1 m c main_v4_1 = pRes m c := by
  unfold V1; rw [Function.update_self]
theorem V1_ne (c : Dev nD) (b : Ref sig .tc) (h0 : b ≠ main_v4_0) (h1 : b ≠ main_v4_1) : V1 m c b = VH m c (Proc.devRef .tc b) := by
  unfold V1; rw [Function.update_of_ne h1, Function.update_of_ne h0]
theorem V2_o (c : Dev nD) : V2 m c main_v5 = outA (V1 m) c := by unfold V2; rw [Function.update_self]
theorem V2_ne (c : Dev nD) (b : Ref sig .tc) (h : b ≠ main_v5) : V2 m c b = V1 m c b := by unfold V2; rw [Function.update_of_ne h]

/-- The TensorCore's arrays, one by one. -/
theorem bufs_eq (d : Dev nD) (W : (b : Ref sig .tc) → Buf (Elt F) ((d.tc : Thread nD τ).loc b)) :
    (unscopedBufs d W : sProp 𝕄) = iprop((xLoc d ↦{fullShare} W main_arg0) ∗ (etLoc d ↦{fullShare} W main_arg1) ∗ (ptLoc d ↦{fullShare} W main_arg2)
      ∗ (ebLoc d ↦{fullShare} W main_arg3) ∗ (pbLoc d ↦{fullShare} W main_arg4) ∗ (teLoc d ↦{fullShare} W main_arg5) ∗ (tpLoc d ↦{fullShare} W main_arg6)
      ∗ ((SparseCore.T d).loc main_v0 ↦{fullShare} W main_v0) ∗ (v1Loc d ↦{fullShare} W main_v1) ∗ ((SparseCore.T d).loc main_v2 ↦{fullShare} W main_v2)
      ∗ (v3Loc d ↦{fullShare} W main_v3) ∗ (ieLoc d ↦{fullShare} W main_v4_0) ∗ (ipLoc d ↦{fullShare} W main_v4_1) ∗ (oLoc d ↦{fullShare} W main_v5)) := by
  unfold unscopedBufs
  rw [show (Finset.univ.filter fun b : Ref sig .tc => ¬ b.isScoped)
      = {main_arg0, main_arg1, main_arg2, main_arg3, main_arg4, main_arg5, main_arg6, main_v0, main_v1, main_v2, main_v3, main_v4_0, main_v4_1, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-! ## The two calls -/

/-- The TensorCore's call as a program of its own. -/
def tcProg : Prog (TpuEff nD τ sig (Elt F) (ΛP (F := F)) .tc) PUnit := .op (.customCall (Pipeline.entry (0 : Fin 1)) ()) .ret

theorem tcProg_lift : (Prog.lift (.customCall (SparseCore.inner (Pipeline.entry (0 : Fin 1))) ())
      : Prog (TpuEff nD τ sig (Elt F) (SparseCore.Sig (ΛP (F := F)) 1) .tc) PUnit)
    = SparseCore.liftProg (nD := nD) (τ := τ) (sig := sig) (Val := Elt F) (Λ := ΛP (F := F)) (Q := 1) (pr := .tc) (tcProg (F := F)) := rfl

/-- The TensorCore's call: from the arrays at `V1` to the arrays at `V2`. -/
theorem tcCall [∀ e, Nonempty (Elt F e)] (κ : GSem nD τ sig → ℕ) (d : Dev nD) :
    iprop((K (F := F)).ctx EH (P m) κ ∗ (K (F := F)).tcSt EH d 1 ∗ boundary (SparseCore.T d) ∗ unscopedBufs d (V1 m d) ∗ G (F := F) d)
      ⊢ wp frame (wpE ((K (F := F)).defs (D (F := F))) 𝒱 (SparseCore.T d) none) Set.univ
          (Prog.lift (.customCall (SparseCore.inner (Pipeline.entry (0 : Fin 1))) ()))
          fun _ => iprop((K (F := F)).tcSt EH d 1 ∗ boundary (SparseCore.T d) ∗ unscopedBufs d (V2 m d)) := by
  rw [tcProg_lift]
  refine BIBase.Entails.trans ?_ ((K (F := F)).wp_liftProg (D (F := F)) 𝒱 (SparseCore.T d) Set.univ none (tcProg (F := F)) _)
  have hreg := Pipeline.RegionSeg.wp (pcfgs (F := F)) adm (pdats (V1 m)) none cellOf_inj (EP (F := F)) defs₀ 𝒱₀ (K (F := F)).L (K (F := F)).lev
    (reg (V1 m) (V2 m) (V2_o m) (V2_ne m)) d none (fun _ h => nomatch h) .ret
    (fun _ => iprop((K (F := F)).tcSt EH d 1 ∗ boundary (SparseCore.T d) ∗ unscopedBufs d (V2 m d)))
  rw [show (reg (V1 m) (V2 m) (V2_o m) (V2_ne m)).pre d = iprop(unscopedBufs d (V1 m d) ∗ idleTc d) from rfl,
    show (reg (V1 m) (V2 m) (V2_o m) (V2_ne m)).post d = iprop(unscopedBufs d (V2 m d) ∗ idleTc d) from rfl] at hreg
  refine BIBase.Entails.trans ?_ hreg
  unfold SparseCore.Cfg.tcSt
  rw [(K (F := F)).Otc_end d (le_refl 1)]
  iintro ⟨#Hctx, ⟨⟨%W, %hW, HO⟩, Hrest⟩, Hb, Hbufs, Hg, Ht⟩
  isplitl [Hrest]
  · iintro ⟨Hb, Hbufs, %W', %hW', HO⟩
    rw [wp_ret]
    imodintro
    isplitl [Hrest HO]
    · isplitl [HO]
      · iexists W'; isplitr; · ipureintro; exact hW'
        iexact HO
      iexact Hrest
    isplitl [Hb]; · iexact Hb
    iexact Hbufs
  isplitl [Hb]; · iexact Hb
  isplitl [Hbufs HO]
  · isplitl [Hbufs]; · iexact Hbufs
    iexists W; isplitr; · ipureintro; exact hW
    iexact HO
  isplitr
  · iapply (SparseCore.Cfg.ctx_levAts κ); iexact Hctx
  isplitl [Hg]; · iexact Hg
  iexact Ht

/-! ## @main -/

/-- What @main leaves the claim: the arguments as they were, the result at the sums. -/
abbrev FIN (d : Dev nD) : sProp 𝕄 :=
  iprop((xLoc d ↦{fullShare} m (xLoc d)) ∗ (etLoc d ↦{fullShare} m (etLoc d)) ∗ (ptLoc d ↦{fullShare} m (ptLoc d))
      ∗ (ebLoc d ↦{fullShare} m (ebLoc d)) ∗ (pbLoc d ↦{fullShare} m (pbLoc d)) ∗ (teLoc d ↦{fullShare} m (teLoc d)) ∗ (tpLoc d ↦{fullShare} m (tpLoc d))
      ∗ (oLoc d ↦{fullShare} outA (V1 m) d))

theorem bufs_VH (d : Dev nD) :
    (unscopedBufs d (fun b : Ref sig .tc => VH m d (Proc.devRef .tc b)) : sProp 𝕄)
      ⊢ iprop(callPts m d (m (ieLoc d)) (m (ipLoc d)) ∗ (callPts m d (eRes m d) (pRes m d) -∗ unscopedBufs d (V1 m d))) := by
  rw [bufs_eq, bufs_eq, V1_e, V1_p]
  rw [V1_ne m d main_arg0 (by decide) (by decide), V1_ne m d main_arg1 (by decide) (by decide), V1_ne m d main_arg2 (by decide) (by decide),
    V1_ne m d main_arg3 (by decide) (by decide), V1_ne m d main_arg4 (by decide) (by decide), V1_ne m d main_arg5 (by decide) (by decide),
    V1_ne m d main_arg6 (by decide) (by decide), V1_ne m d main_v0 (by decide) (by decide), V1_ne m d main_v1 (by decide) (by decide),
    V1_ne m d main_v2 (by decide) (by decide), V1_ne m d main_v3 (by decide) (by decide), V1_ne m d main_v5 (by decide) (by decide)]
  rw [VH_v1, VH_v3, VH_ne m d main_arg3 (by decide) (by decide) (by decide) (by decide), VH_ne m d main_arg4 (by decide) (by decide) (by decide) (by decide),
    VH_ne m d main_v4_0 (by decide) (by decide) (by decide) (by decide), VH_ne m d main_v4_1 (by decide) (by decide) (by decide) (by decide)]
  iintro ⟨Hx, Het, Hpt, Heb, Hpb, Hte, Htp, H0, H1, H2, H3, Hie, Hip, Ho⟩
  isplitl [H1 H3 Heb Hpb Hie Hip]
  · isplitl [H1]; · iexact H1
    isplitl [H3]; · iexact H3
    isplitl [Heb]; · iexact Heb
    isplitl [Hpb]; · iexact Hpb
    isplitl [Hie]; · iexact Hie
    iexact Hip
  iintro ⟨H1, H3, Heb, Hpb, Hie, Hip⟩
  isplitl [Hx]; · iexact Hx
  isplitl [Het]; · iexact Het
  isplitl [Hpt]; · iexact Hpt
  isplitl [Heb]; · iexact Heb
  isplitl [Hpb]; · iexact Hpb
  isplitl [Hte]; · iexact Hte
  isplitl [Htp]; · iexact Htp
  isplitl [H0]; · iexact H0
  isplitl [H1]; · iexact H1
  isplitl [H2]; · iexact H2
  isplitl [H3]; · iexact H3
  isplitl [Hie]; · iexact Hie
  isplitl [Hip]; · iexact Hip
  iexact Ho

theorem V2_arg (d : Dev nD) (b : Ref sig .tc) (h5 : b ≠ main_v5) (h4 : b ≠ main_v4_0) (h4' : b ≠ main_v4_1)
    (h0 : b ≠ main_v0) (h1 : b ≠ main_v1) (h2 : b ≠ main_v2) (h3 : b ≠ main_v3) : V2 m d b = m ((d : Thread nD τ).loc b) := by
  rw [V2_ne m d b h5, V1_ne m d b h4 h4', VH_ne m d b h0 h1 h2 h3]

theorem bufs_V2 (d : Dev nD) : (unscopedBufs d (V2 m d) : sProp 𝕄) ⊢ FIN m d := by
  rw [bufs_eq, V2_o]
  rw [V2_arg m d main_arg0 (by decide) (by decide) (by decide) (by decide) (by decide) (by decide) (by decide),
    V2_arg m d main_arg1 (by decide) (by decide) (by decide) (by decide) (by decide) (by decide) (by decide),
    V2_arg m d main_arg2 (by decide) (by decide) (by decide) (by decide) (by decide) (by decide) (by decide),
    V2_arg m d main_arg3 (by decide) (by decide) (by decide) (by decide) (by decide) (by decide) (by decide),
    V2_arg m d main_arg4 (by decide) (by decide) (by decide) (by decide) (by decide) (by decide) (by decide),
    V2_arg m d main_arg5 (by decide) (by decide) (by decide) (by decide) (by decide) (by decide) (by decide),
    V2_arg m d main_arg6 (by decide) (by decide) (by decide) (by decide) (by decide) (by decide) (by decide)]
  iintro ⟨Hx, Het, Hpt, Heb, Hpb, Hte, Htp, -, -, -, -, -, -, Ho⟩
  isplitl [Hx]; · iexact Hx
  isplitl [Het]; · iexact Het
  isplitl [Hpt]; · iexact Hpt
  isplitl [Heb]; · iexact Heb
  isplitl [Hpb]; · iexact Hpb
  isplitl [Hte]; · iexact Hte
  isplitl [Htp]; · iexact Htp
  iexact Ho

theorem main_eq (d : Dev nD) : main (F := F) d = (do
    hlo rfl (opE0 (F := F)) (fun _ => .ret ⟨⟩)
    hlo rfl (opE1 (F := F)) (fun _ => .ret ⟨⟩)
    hlo rfl (opP0 (F := F)) (fun _ => .ret ⟨⟩)
    hlo rfl (opP1 (F := F)) (fun _ => .ret ⟨⟩)
    (K (F := F)).run d 0
    Prog.lift (.customCall (SparseCore.inner (Pipeline.entry (0 : Fin 1))) ())
    pure ⟨⟩) := rfl

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (V0 m d)
    from Pipeline.unscopedBufs_held d (V0 m d)]
  simp only [main_eq, wp_bind, wp_pure]
  iintro ⟨#Hctx, Hst, ⟨Hb, Hheld, Hts, -⟩, HG⟩
  iapply (wp_hlo_within 𝒱 (SparseCore.T d) none Set.univ (op := opE0) (S := Pipeline.ucRefs τ sig)
    (Pipeline.sub_ucRefs _ (StableHlo.reshape_bufs_sub _ _ _ _ _ _)) (V := V0 m d)) $$ [Hb Hheld]
  · isplitl [Hb] <;> iassumption
  iintro ⟨Hb, Hheld⟩
  rw [wp_ret]; imodintro
  iapply (wp_hlo_within 𝒱 (SparseCore.T d) none Set.univ (op := opE1) (S := Pipeline.ucRefs τ sig)
    (Pipeline.sub_ucRefs _ (StableHlo.unary_bufs_sub _ _ _ _ _))) $$ [Hb Hheld]
  · isplitl [Hb] <;> iassumption
  iintro ⟨Hb, Hheld⟩
  rw [wp_ret]; imodintro
  iapply (wp_hlo_within 𝒱 (SparseCore.T d) none Set.univ (op := opP0) (S := Pipeline.ucRefs τ sig)
    (Pipeline.sub_ucRefs _ (StableHlo.reshape_bufs_sub _ _ _ _ _ _))) $$ [Hb Hheld]
  · isplitl [Hb] <;> iassumption
  iintro ⟨Hb, Hheld⟩
  rw [wp_ret]; imodintro
  iapply (wp_hlo_within 𝒱 (SparseCore.T d) none Set.univ (op := opP1) (S := Pipeline.ucRefs τ sig)
    (Pipeline.sub_ucRefs _ (StableHlo.unary_bufs_sub _ _ _ _ _))) $$ [Hb Hheld]
  · isplitl [Hb] <;> iassumption
  iintro ⟨Hb, Hheld⟩
  rw [wp_ret]; imodintro
  ihave Hbufs := (show held (SparseCore.T d) (Pipeline.ucRefs τ sig)
      ((opP1 (F := F)).result ((opP0 (F := F)).result ((opE1 (F := F)).result ((opE0 (F := F)).result (V0 m d))))) ⊢ (unscopedBufs d (fun b : Ref sig .tc => VH m d (Proc.devRef .tc b)) : sProp 𝕄)
    from Entails.of_eq (Pipeline.unscopedBufs_held d (VH m d)).symm) $$ Hheld
  ihave H := (bufs_VH m d) $$ Hbufs
  icases H with ⟨Hcall, Hback⟩
  ihave H := (call_split m d (m (ieLoc d)) (m (ipLoc d))) $$ Hcall
  icases H with ⟨Hcores, Hkept⟩
  iapply ((K (F := F)).wp_run (D (F := F)) 𝒱 (EH := EH) (P := P m) κ d 0) $$ [Hst Hcores Hkept Hback Hb Hts HG]
  isplitr; · iexact Hctx
  isplitl [Hst]; · iexact Hst
  isplitl [Hcores]; · iexact Hcores
  iintro ⟨Hst, Hdn⟩
  ihave Hcall := (call_join m d (eRes m d) (pRes m d)) $$ [Hdn Hkept]
  · isplitl [Hdn]; · iexact Hdn
    iexact Hkept
  ihave Hbufs := Hback $$ Hcall
  iapply (wp_wand_r _ _ _ (Q := fun _ => iprop((K (F := F)).tcSt EH d 1 ∗ boundary (SparseCore.T d) ∗ unscopedBufs d (V2 m d))))
  isplitl [Hst Hb Hbufs HG]
  · iapply (tcCall m κ d)
    isplitr; · iexact Hctx
    isplitl [Hst]; · iexact Hst
    isplitl [Hb]; · iexact Hb
    isplitl [Hbufs]; · iexact Hbufs
    iexact HG
  iintro %_ ⟨Hst, Hb, Hbufs⟩
  imodintro
  isplitl [Hst]; · iexact Hst
  isplitl [Hbufs]; · iapply (bufs_V2 m d); iexact Hbufs
  isplitl [Hb] <;> iassumption

/-! ## The run -/

def fq (d : Dev nD) (s' : Phys nD τ sig (Elt F)) : Prop :=
  s'.mem.mem (xLoc d) = m (xLoc d) ∧ s'.mem.mem (etLoc d) = m (etLoc d) ∧ s'.mem.mem (ptLoc d) = m (ptLoc d)
    ∧ s'.mem.mem (ebLoc d) = m (ebLoc d) ∧ s'.mem.mem (pbLoc d) = m (pbLoc d) ∧ s'.mem.mem (teLoc d) = m (teLoc d)
    ∧ s'.mem.mem (tpLoc d) = m (tpLoc d) ∧ s'.mem.mem (oLoc d) = outA (V1 m) d

/-- An array held whole is what the memory holds. -/
theorem read_back (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H4, H5, H6, H7⟩, HSI⟩
  ihave H := (read_back s' (xLoc d) (m (xLoc d))) $$ [HSI H0]
  · isplitl [HSI] <;> iassumption
  icases H with ⟨%h0, HSI⟩
  ihave H := (read_back s' (etLoc d) (m (etLoc d))) $$ [HSI H1]
  · isplitl [HSI] <;> iassumption
  icases H with ⟨%h1, HSI⟩
  ihave H := (read_back s' (ptLoc d) (m (ptLoc d))) $$ [HSI H2]
  · isplitl [HSI] <;> iassumption
  icases H with ⟨%h2, HSI⟩
  ihave H := (read_back s' (ebLoc d) (m (ebLoc d))) $$ [HSI H3]
  · isplitl [HSI] <;> iassumption
  icases H with ⟨%h3, HSI⟩
  ihave H := (read_back s' (pbLoc d) (m (pbLoc d))) $$ [HSI H4]
  · isplitl [HSI] <;> iassumption
  icases H with ⟨%h4, HSI⟩
  ihave H := (read_back s' (teLoc d) (m (teLoc d))) $$ [HSI H5]
  · isplitl [HSI] <;> iassumption
  icases H with ⟨%h5, HSI⟩
  ihave H := (read_back s' (tpLoc d) (m (tpLoc d))) $$ [HSI H6]
  · isplitl [HSI] <;> iassumption
  icases H with ⟨%h6, HSI⟩
  ihave H := (read_back s' (oLoc d) (outA (V1 m) d)) $$ [HSI H7]
  · isplitl [HSI] <;> iassumption
  icases H with ⟨%h7, -⟩
  ipureintro
  exact ⟨h0, h1, h2, h3, h4, h5, h6, h7⟩

/-- What every run ends in: the arguments untouched, the result at the sums, all semaphores at zero. -/
def QC : PUnit × MemSt nD τ sig (Elt F) → Prop := fun r =>
  (∀ d : Dev nD, r.2.mem (xLoc d) = m (xLoc d) ∧ r.2.mem (etLoc d) = m (etLoc d) ∧ r.2.mem (ptLoc d) = m (ptLoc d)
    ∧ r.2.mem (ebLoc d) = m (ebLoc d) ∧ r.2.mem (pbLoc d) = m (pbLoc d) ∧ r.2.mem (teLoc d) = m (teLoc d)
    ∧ r.2.mem (tpLoc d) = m (tpLoc d) ∧ r.2.mem (oLoc d) = outA (V1 m) d) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.Sc
end
-- ==== Proof.Frames.lean ====
module

public import proofs.«01_k».proof.Proof.Launch
public import proofs.«01_k».proof.Proof.Gen.Kernel
public import Idealize.ShloMosaic.Adequacy
public import Idealize.ShloMosaic.Init

/-!
The frames of the program as printed and of its idealization: the two have one text, so one run gives both.
-/

@[expose] public section
noncomputable section
namespace Cert.Proof.Sc
open Idealize.ShloMosaic Idealize.ShloMosaic.TcCoe
open Idealize.SL.Sem

instance kernelFacts : Cert.Kernel.Facts := Cert.Kernel.Gen.facts

section Same
variable {F : FTy → Type} [FloatOps F]

theorem defs₀_same : Cert.Kernel.defs₀ (F := F) = Cert.KernelIdeal.defs₀ (F := F) := by
  funext pr ℓ a
  match pr, ℓ, a with
  | .tc, ⟨0, _⟩, _ => rfl
  | .tc, ⟨1, _⟩, (t, s) => rfl
  | .scScalar _, ⟨0, _⟩, _ => rfl
  | .scScalar _, ⟨1, _⟩, _ => rfl
  | .scVector _ _, ⟨0, _⟩, _ => rfl
  | .scVector _ _, ⟨1, _⟩, _ => rfl

theorem defs_same : Cert.Kernel.defs (F := F) = Cert.KernelIdeal.defs (F := F) := by
  unfold Cert.Kernel.defs Cert.KernelIdeal.defs
  rw [show Cert.Kernel.defs₀ (F := F) = Cert.KernelIdeal.defs₀ (F := F) from defs₀_same]
  rfl

end Same

theorem run_kernel (m) (ρ) : θ_run (Cert.Kernel.defs (F := Bits)) Cert.Kernel.threads ⟨m, fun _ => 0, ρ⟩ (QC (F := Bits) m) := by
  rw [defs_same]; exact run_main (F := Bits) m ρ

/-- The program as printed. -/
theorem frame_kernel : Cert.quiescent_Kernel := fun m ρ _ =>
  (θ_run Cert.Kernel.defs _ _).mono
    (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (run_kernel m ρ)

/-- Its idealization. -/
theorem frame_kernelIdeal : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (run_main (F := Ideal) m ρ)

end Cert.Proof.Sc
end
-- ==== Proof.RefFrame.lean ====
/- The reference's run ends with its arguments unchanged and every semaphore counter at zero. -/
module

public import proofs.«01_k».proof.Defs
public import proofs.«01_k».proof.Proof.Gen.ReferenceIdeal.Run
public import proofs.«01_k».proof.Proof.Gen.ReferenceIdeal
public import Idealize.ShloMosaic.Lib.Quiescent

@[expose] public section

noncomputable section

namespace Cert.Proof

open Idealize.ShloMosaic Idealize.ShloMosaic.TcCoe Idealize.SL

/-- The reference is quiescent: the run gives its arguments, and it declares no semaphore. -/
theorem frame_referenceIdeal : Cert.quiescent_ReferenceIdeal (hReferenceIdeal := Cert.ReferenceIdeal.Gen.facts) := by
  intro m g _
  exact (θ_run Cert.ReferenceIdeal.defs _ _).mono
    (fun r h => ⟨fun c => (h c).2, Idealize.ShloMosaic.sem_eq_zero_of_no_sems (by decide) r.2⟩)
    (Cert.ReferenceIdeal.Value.run (F := Ideal) m g)

end Cert.Proof

end
-- ==== Proof.Bins.lean ====
/- The number of boundaries below a value, from a guess that is off by at most one: whatever is a guess's distance from
   the boundaries, the two boundaries around it settle the count. -/
module

public import proofs.«01_k».proof.Proof.Setup
public import Idealize.ShloMosaic.Lib.Routing.Count

@[expose] public section

noncomputable section

namespace Cert.Proof.Sc

open Cert.KernelIdeal Cert.KernelIdeal.Gen
open Idealize.ShloMosaic Idealize.ShloMosaic.TcCoe

/-! ### Counting on the naturals -/

/-- The number of `k` below 255 with `P`, when all but the two places around `g` are known: those two decide it. -/
theorem count_around (P : ℕ → Prop) [DecidablePred P] (g : ℕ) (hg : g ≤ 255)
    (lo : ∀ k, k + 2 ≤ g → P k) (hi : ∀ k, k < 255 → g + 1 ≤ k → ¬ P k) :
    Nat.count P 255 + 1 = g + (if g = 0 ∨ P (g - 1) then 1 else 0) + (if g < 255 ∧ P g then 1 else 0) := by
  have below : ∀ n, (∀ k, k < n → P k) → Nat.count P n = n := fun n h => (Nat.count_iff_forall (p := P)).2 (fun {k} hk => h k hk)
  have past : ∀ n, n ≤ 255 → g + 1 ≤ n → Nat.count P 255 = Nat.count P n := fun n hn hgn => by
    rw [show (255 : ℕ) = n + (255 - n) by omega, Nat.count_add]
    have : Nat.count (fun k => P (n + k)) (255 - n) = 0 :=
      (Nat.count_iff_forall_not (p := fun k => P (n + k))).2 (fun {k} hk => hi (n + k) (by omega) (by omega))
    omega
  rcases Nat.eq_zero_or_pos g with h0 | h0
  · subst h0
    rw [past 1 (by omega) (by omega), Nat.count_succ, Nat.count_zero]
    by_cases p : P 0 <;> simp [p]
  · obtain ⟨k, rfl⟩ : ∃ k, g = k + 1 := ⟨g - 1, by omega⟩
    have hb : Nat.count P k = k := below k fun j hj => lo j (by omega)
    rcases Nat.lt_or_ge (k + 1) 255 with h | h
    · rw [past (k + 2) (by omega) (by omega), Nat.count_succ, Nat.count_succ, hb]
      by_cases p1 : P k <;> by_cases p2 : P (k + 1) <;> simp [p1, p2, h]
    · obtain rfl : k = 254 := by omega
      rw [Nat.count_succ, hb]
      by_cases p1 : P 254 <;> simp [p1]

/-! ### The words -/

/-- The clipped word is the clipped integer. -/
theorem capBin_toNat (w : BitVec 32) : ((capBin w).toNat : ℤ) = max 0 (min 255 w.toInt) := by
  have hw := w.isLt
  unfold capBin IntOp.minsi IntOp.maxsi
  have e := BitVec.toInt_eq_toNat_cond w
  have slt : ∀ x y : BitVec 32, x.slt y = decide (x.toInt < y.toInt) := fun _ _ => rfl
  simp only [slt, show (0#32 : BitVec 32).toInt = 0 from rfl, show (255#32 : BitVec 32).toInt = 255 from rfl]
  by_cases h1 : w.toInt < 0
  · simp [h1]; omega
  · by_cases h2 : 255 < w.toInt
    · simp [h1, h2]; omega
    · simp [h1, h2]; omega

/-- The two places that a guess of at most 255 looks at. -/
theorem lowIx_toNat (w : BitVec 32) (hw : w.toNat ≤ 255) (h0 : w.toNat ≠ 0) : (lowIx w).toNat = w.toNat - 1 := by
  obtain ⟨g, rfl, hg⟩ : ∃ g : Fin 256, w = BitVec.ofNat 32 g.val ∧ g.val = w.toNat :=
    ⟨⟨w.toNat, by omega⟩, by simp, rfl⟩
  clear hg
  revert h0; clear hw
  revert g; decide +kernel

theorem hiIx_toNat (w : BitVec 32) (hw : w.toNat < 255) : (hiIx w).toNat = w.toNat := by
  obtain ⟨g, rfl, hg⟩ : ∃ g : Fin 255, w = BitVec.ofNat 32 g.val ∧ g.val = w.toNat :=
    ⟨⟨w.toNat, by omega⟩, by simp, rfl⟩
  clear hg hw
  revert g; decide +kernel

/-- `settle` adds the two bits to the guess less one. -/
theorem settle_words (g : ℕ) (hg : g ≤ 255) (a b : BitVec 1) (n : ℕ)
    (h : n + 1 = g + a.toNat + b.toNat) :
    IntOp.addi (IntOp.addi (IntOp.subi (BitVec.ofNat 32 g) 1#32) (a.setWidth 32)) (b.setWidth 32) = BitVec.ofNat 32 n := by
  have ha := a.isLt
  have hb := b.isLt
  apply BitVec.eq_of_toNat_eq
  show (BitVec.ofNat 32 g - 1#32 + a.setWidth 32 + b.setWidth 32).toNat = _
  simp only [BitVec.toNat_add, BitVec.toNat_sub, BitVec.toNat_ofNat, BitVec.toNat_setWidth]
  omega

/-- Boundary `k` as an index. -/
def at255 (k : Fin 255) : S255.Idx := fun a => ⟨k.val, by
  match a with | 0 => exact k.isLt⟩

/-- The number of boundaries below `v`. -/
def below (b : S255.Idx → EReal) (v : EReal) : ℕ := (Finset.univ.filter fun k : Fin 255 => b (at255 k) < v).card

theorem below_le (b : S255.Idx → EReal) (v : EReal) : below b v ≤ 255 :=
  (Finset.card_filter_le _ _).trans (by simp)

/-- The guess is within one of the count: every boundary further below is below `v`, none further above is. -/
def Near (b : S255.Idx → EReal) (v : EReal) (g : ℕ) : Prop :=
  ∀ k : Fin 255, (k.val + 2 ≤ g → b (at255 k) < v) ∧ (g + 1 ≤ k.val → ¬ b (at255 k) < v)

/-- A guess that is near settles to the count. -/
theorem settle_near (b : S255.Idx → EReal) (v : EReal) (w : BitVec 32) (hw : w.toNat ≤ 255) (hn : Near b v w.toNat) :
    settle (F := Ideal) w v (look (F := Ideal) b (lowIx w)) (look (F := Ideal) b (hiIx w)) = BitVec.ofNat 32 (below b v) := by
  classical
  let P : ℕ → Prop := fun k => ∃ h : k < 255, b (at255 ⟨k, h⟩) < v
  have hP : ∀ k : Fin 255, P k.val ↔ b (at255 k) < v := fun k => ⟨fun h => h.2, fun h => ⟨k.isLt, h⟩⟩
  have hcount : below b v = Nat.count P 255 := by
    rw [← Routing.card_filter_fin 255 P]
    exact congrArg Finset.card (Finset.filter_congr fun k _ => (hP k).symm)
  have key := count_around P w.toNat hw
    (fun k hk => (hP ⟨k, by omega⟩).2 ((hn ⟨k, by omega⟩).1 hk))
    (fun k hk hg h => (hn ⟨k, hk⟩).2 hg ((hP ⟨k, hk⟩).1 h))
  rw [← hcount] at key
  have hw' : w = BitVec.ofNat 32 w.toNat := by simp
  have bit : ∀ (p : Prop) [Decidable p], (BitVec.ofBool (decide p)).toNat = if p then 1 else 0 := fun p _ => by
    by_cases h : p <;> simp [h]
  have lt : ∀ (k : ℕ) (h : k < 255) (u : BitVec 32), u.toNat = k →
      (FloatOps.cmpf (F := Ideal) .olt (look (F := Ideal) b u) v) = BitVec.ofBool (decide (P k)) := fun k h u hu => by
    have e : look (F := Ideal) b u = b (at255 ⟨k, h⟩) := by
      subst hu
      exact congrArg b (funext fun a => Fin.ext (show min u.toNat 254 = u.toNat by omega))
    rw [e]
    exact congrArg BitVec.ofBool (decide_eq_decide.2 (hP ⟨k, h⟩).symm)
  have e1 : (IntOp.ori (IntOp.cmpi .eq w 0#32) (FloatOps.cmpf (F := Ideal) .olt (look (F := Ideal) b (lowIx w)) v)).toNat
      = if w.toNat = 0 ∨ P (w.toNat - 1) then 1 else 0 := by
    by_cases h : w.toNat = 0
    · have hz : IntOp.cmpi .eq w 0#32 = 1#1 := by
        rw [show w = 0#32 from BitVec.eq_of_toNat_eq h]; rfl
      rw [hz, if_pos (Or.inl h)]
      have all : ∀ x : BitVec 1, (IntOp.ori 1#1 x).toNat = 1 := by decide
      exact all _
    · have hz : IntOp.cmpi .eq w 0#32 = 0#1 := by
        have : (w == 0#32) = false := by
          rw [beq_eq_false_iff_ne]; intro e; exact h (by rw [e]; rfl)
        show BitVec.ofBool (w == 0#32) = _
        rw [this]; rfl
      rw [hz, lt (w.toNat - 1) (by omega) _ (lowIx_toNat w hw h)]
      have all : ∀ x : BitVec 1, (IntOp.ori 0#1 x).toNat = x.toNat := by decide
      rw [all, bit]
      simp only [h, false_or]
  have e2 : (IntOp.andi (IntOp.cmpi .slt w 255#32) (FloatOps.cmpf (F := Ideal) .olt (look (F := Ideal) b (hiIx w)) v)).toNat
      = if w.toNat < 255 ∧ P w.toNat then 1 else 0 := by
    by_cases h : w.toNat < 255
    · have hz : IntOp.cmpi .slt w 255#32 = 1#1 := by
        have : w.slt 255#32 = true := by
          show decide (w.toInt < 255) = true
          rw [BitVec.toInt_eq_toNat_cond]; simp; omega
        show BitVec.ofBool (w.slt 255#32) = _
        rw [this]; rfl
      rw [hz, lt w.toNat h _ (hiIx_toNat w h)]
      have all : ∀ x : BitVec 1, (IntOp.andi 1#1 x).toNat = x.toNat := by decide
      rw [all, bit]
      simp only [h, true_and]
    · have hz : IntOp.cmpi .slt w 255#32 = 0#1 := by
        have : w.slt 255#32 = false := by
          show decide (w.toInt < 255) = false
          rw [BitVec.toInt_eq_toNat_cond]; simp; omega
        show BitVec.ofBool (w.slt 255#32) = _
        rw [this]; rfl
      rw [hz, if_neg (fun hh => h hh.1)]
      have all : ∀ x : BitVec 1, (IntOp.andi 0#1 x).toNat = 0 := by decide
      exact all _
  unfold settle
  have := settle_words w.toNat hw
    (IntOp.ori (IntOp.cmpi .eq w 0#32) (FloatOps.cmpf (F := Ideal) .olt (look (F := Ideal) b (lowIx w)) v))
    (IntOp.andi (IntOp.cmpi .slt w 255#32) (FloatOps.cmpf (F := Ideal) .olt (look (F := Ideal) b (hiIx w)) v))
    (below b v) (by rw [e1, e2]; exact key)
  rw [← hw'] at this
  exact this

end Cert.Proof.Sc

end
-- ==== Proof.Guess.lean ====
/- The two guesses are near: a value's position on the grid, rounded down to the bin, is within one of the number of
   boundaries below the value, for boundaries that lie within half a bin of the grid. -/
module

public import proofs.«01_k».proof.Proof.Bins
public import Idealize.ShloMosaic.PureOps.Ideal.Laws
public import Idealize.ShloMosaic.Lib.IdealHost
public import Mathlib.Analysis.SpecialFunctions.Log.Basic
public import Mathlib.Analysis.Complex.Exponential

@[expose] public section

noncomputable section

namespace Cert.Proof.Sc

open Cert.KernelIdeal Cert.KernelIdeal.Gen
open Idealize.ShloMosaic Idealize.ShloMosaic.TcCoe

/-! ### Rounding down to the bin below -/

/-- The position rounded toward zero, less one where the position is whole. -/
def stepBack (φ : EReal) : BitVec 32 :=
  if φ = (((Ideal.fptosi 32 φ).toInt : ℝ) : EReal) then Ideal.fptosi 32 φ - 1#32 else Ideal.fptosi 32 φ

theorem toInt_ofInt32 (t : ℤ) (h₁ : -2147483648 ≤ t) (h₂ : t ≤ 2147483647) : (BitVec.ofInt 32 t).toInt = t := by
  rw [BitVec.toInt_ofInt, Int.bmod_def]; omega

theorem toInt_pred32 (t : ℤ) (h₁ : -2147483648 < t) (h₂ : t ≤ 2147483647) : (BitVec.ofInt 32 t - 1#32).toInt = t - 1 := by
  rw [BitVec.toInt_sub, toInt_ofInt32 t (by omega) h₂, show (1#32 : BitVec 32).toInt = 1 from rfl, Int.bmod_def]; omega

/-- The integer that the position rounds to, clamped to 32 bits. -/
theorem fptosi_toInt (r : ℝ) :
    (Ideal.fptosi 32 (r : EReal)).toInt = max (-2147483648) (min 2147483647 (if 0 ≤ r then ⌊r⌋ else ⌈r⌉)) := by
  show (BitVec.ofInt 32 (max (-2147483648) (min 2147483647 (if 0 ≤ r then ⌊r⌋ else ⌈r⌉)))).toInt = _
  exact toInt_ofInt32 _ (by omega) (by omega)

/-- A position that is not the least 32-bit integer: what the rounded word says about it. -/
theorem stepBack_spec (φ : EReal) (h : φ ≠ ((-2147483648 : ℝ) : EReal)) :
    (∀ m : ℤ, 1 ≤ m → m ≤ 255 → m ≤ (stepBack φ).toInt → (((m : ℝ)) : EReal) < φ)
      ∧ (∀ m : ℤ, 0 ≤ m → m ≤ 254 → (stepBack φ).toInt ≤ m → φ ≤ (((m : ℝ) + 1 : ℝ) : EReal)) := by
  induction φ with
  | bot =>
    have e : (stepBack ⊥).toInt = -2147483648 := by
      rw [stepBack, if_neg (EReal.bot_ne_coe _)]; rfl
    rw [e]
    exact ⟨fun m h1 _ h2 => by omega, fun m _ _ _ => bot_le⟩
  | top =>
    have e : (stepBack ⊤).toInt = 2147483647 := by
      rw [stepBack, if_neg (EReal.top_ne_coe _)]; rfl
    rw [e]
    exact ⟨fun m _ _ _ => EReal.coe_lt_top _, fun m _ h1 h2 => by omega⟩
  | coe r =>
    have hr : r ≠ -2147483648 := fun e => h (by rw [e])
    have ht := fptosi_toInt r
    have hw : Ideal.fptosi 32 (r : EReal) = BitVec.ofInt 32 (Ideal.fptosi 32 (r : EReal)).toInt := by simp
    obtain ⟨t, et⟩ : ∃ t, t = (Ideal.fptosi 32 (r : EReal)).toInt := ⟨_, rfl⟩
    rw [← et] at ht hw
    have b1 : -2147483648 ≤ t := by omega
    have b2 : t ≤ 2147483647 := by omega
    by_cases hrt : r = t
    · have b3 : -2147483648 < t := lt_of_le_of_ne b1 (fun e => hr (by rw [hrt, ← e]; norm_num))
      have e : (stepBack (r : EReal)).toInt = t - 1 := by
        rw [stepBack, ← et, if_pos (by rw [hrt]), hw, toInt_pred32 t b3 b2]
      rw [e, hrt]
      refine ⟨fun m _ _ hm => EReal.coe_lt_coe_iff.2 (by exact_mod_cast (by omega : m < t)),
        fun m _ _ hm => EReal.coe_le_coe_iff.2 (by exact_mod_cast (by omega : t ≤ m + 1))⟩
    · have e : (stepBack (r : EReal)).toInt = t := by
        rw [stepBack, ← et, if_neg (fun e => hrt (EReal.coe_injective e)), ← et]
      rw [e]
      constructor
      · intro m h1 h2 hm
        by_cases h0 : 0 ≤ r
        · rw [if_pos h0] at ht
          have hf : (⌊r⌋ : ℝ) ≤ r := Int.floor_le r
          have hmf : m ≤ ⌊r⌋ := by omega
          refine EReal.coe_lt_coe_iff.2 (lt_of_le_of_ne (le_trans (by exact_mod_cast hmf) hf) fun e' => hrt ?_)
          have : ⌊r⌋ = m := by rw [← e']; simp
          rw [← e']; exact_mod_cast (by omega : m = t)
        · rw [if_neg h0] at ht
          have : ⌈r⌉ ≤ 0 := Int.ceil_le.2 (by push_cast; linarith)
          omega
      · intro m h1 h2 hm
        refine EReal.coe_le_coe_iff.2 ?_
        by_cases h0 : 0 ≤ r
        · rw [if_pos h0] at ht
          have hf : r < (⌊r⌋ : ℝ) + 1 := Int.lt_floor_add_one r
          have hmf : ⌊r⌋ ≤ m := by omega
          have : (⌊r⌋ : ℝ) ≤ m := by exact_mod_cast hmf
          linarith
        · have : (0 : ℝ) ≤ m := by exact_mod_cast h1
          linarith

/-- A guess read off a position is near, when the position and the boundaries are in step. -/
theorem near_of_pos (b : S255.Idx → EReal) (v φ : EReal) (h : φ ≠ ((-2147483648 : ℝ) : EReal))
    (hd : ∀ k : Fin 255, k.val ≤ 253 → (((k.val : ℝ) + 2 : ℝ) : EReal) < φ → b (at255 k) < v)
    (hu : ∀ k : Fin 255, 1 ≤ k.val → φ ≤ ((k.val : ℝ) : EReal) → ¬ b (at255 k) < v) :
    (capBin (stepBack φ)).toNat ≤ 255 ∧ Near b v (capBin (stepBack φ)).toNat := by
  have hc := capBin_toNat (stepBack φ)
  obtain ⟨s1, s2⟩ := stepBack_spec φ h
  refine ⟨by omega, fun k => ⟨fun hk => ?_, fun hk => ?_⟩⟩
  · refine hd k (by omega) ?_
    have := s1 (k.val + 2) (by omega) (by omega) (by omega)
    push_cast at this
    exact_mod_cast this
  · refine hu k (by omega) ?_
    have hlt := k.isLt
    have := s2 (k.val - 1) (by omega) (by omega) (by omega)
    rwa [show ((((k.val : ℤ) - 1 : ℤ) : ℝ) + 1 : ℝ) = (k.val : ℝ) by push_cast; ring] at this

/-! ### The energy's position -/

theorem word_256 : Ideal.ofBits .f32 0x43800000#32 = ((256 : ℝ) : EReal) := by
  simp [Ideal.ofBits, Ideal.ieee, -EReal.coe_mul]; norm_num

/-- An energy boundary is a real number within half a bin of its grid point. -/
def EnergyGrid (b : S255.Idx → EReal) : Prop :=
  ∀ k : Fin 255, ∃ r : ℝ, b (at255 k) = (r : EReal) ∧ |r * 256 - ((k.val : ℝ) + 1)| ≤ 1 / 2

theorem eRaw_eq (v : EReal) : eRaw (F := Ideal) v = stepBack (v * ((256 : ℝ) : EReal)) := by
  have hp : ePos (F := Ideal) v = v * ((256 : ℝ) : EReal) := congrArg (v * ·) word_256
  unfold eRaw
  rw [hp]
  by_cases e : v * ((256 : ℝ) : EReal) = (((Ideal.fptosi 32 (v * ((256 : ℝ) : EReal))).toInt : ℝ) : EReal)
  · rw [stepBack, if_pos e]
    have : FloatOps.cmpf (F := Ideal) (φ := .f32) .oeq (v * ((256 : ℝ) : EReal))
        (FloatOps.sitofp (F := Ideal) .f32 (FloatOps.fptosi (F := Ideal) (φ := .f32) 32 (v * ((256 : ℝ) : EReal)))) = 1#1 :=
      congrArg BitVec.ofBool (decide_eq_true e)
    rw [this]; rfl
  · rw [stepBack, if_neg e]
    have : FloatOps.cmpf (F := Ideal) (φ := .f32) .oeq (v * ((256 : ℝ) : EReal))
        (FloatOps.sitofp (F := Ideal) .f32 (FloatOps.fptosi (F := Ideal) (φ := .f32) 32 (v * ((256 : ℝ) : EReal)))) = 0#1 :=
      congrArg BitVec.ofBool (decide_eq_false e)
    rw [this]
    exact BitVec.sub_zero _

/-- The energy bin is the number of boundaries below the energy. -/
theorem eBin_eq (b : S255.Idx → EReal) (v : EReal) (hb : EnergyGrid b) (hv : v ≠ ((-8388608 : ℝ) : EReal)) :
    eBin (F := Ideal) b v = BitVec.ofNat 32 (below b v) := by
  have key := near_of_pos b v (v * ((256 : ℝ) : EReal))
    (by
      induction v with
      | bot => rw [EReal.bot_mul_coe_of_pos (by norm_num)]; exact EReal.bot_ne_coe _
      | top => rw [EReal.top_mul_coe_of_pos (by norm_num)]; exact EReal.top_ne_coe _
      | coe x =>
        rw [← EReal.coe_mul]
        intro e
        refine hv (congrArg _ ?_)
        have := EReal.coe_injective e
        linarith)
    (fun k _ hk => by
      obtain ⟨r, er, hr⟩ := hb k
      rw [er]
      have hr' := abs_le.1 hr
      induction v with
      | bot => rw [EReal.bot_mul_coe_of_pos (by norm_num)] at hk; exact absurd hk not_lt_bot
      | top => exact EReal.coe_lt_top _
      | coe x =>
        rw [← EReal.coe_mul, EReal.coe_lt_coe_iff] at hk
        exact EReal.coe_lt_coe_iff.2 (by linarith [hr'.2]))
    (fun k _ hk => by
      obtain ⟨r, er, hr⟩ := hb k
      rw [er]
      have hr' := abs_le.1 hr
      induction v with
      | bot => exact not_lt_bot
      | top => rw [EReal.top_mul_coe_of_pos (by norm_num)] at hk; exact absurd hk (not_le.2 (EReal.coe_lt_top _))
      | coe x =>
        rw [← EReal.coe_mul, EReal.coe_le_coe_iff] at hk
        exact fun h => by have := EReal.coe_lt_coe_iff.1 h; linarith [hr'.1])
  rw [← eRaw_eq] at key
  exact settle_near b v (eGuess (F := Ideal) v) key.1 key.2

/-! ### The pitch's position -/

/-- The natural logarithm of ten, to a part in a thousand. -/
theorem log_ten : 2.3 ≤ Real.log 10 ∧ Real.log 10 ≤ 2.305 := by
  have up : Real.exp 0.575 ≤ 1.7775 := by
    have h := abs_le.1 (Real.exp_bound (x := 0.575) (by norm_num) (n := 6) (by norm_num))
    norm_num [Finset.sum_range_succ, Nat.factorial] at h
    linarith [h.2]
  have dn : 1.7792 ≤ Real.exp 0.57625 := by
    have h := abs_le.1 (Real.exp_bound (x := 0.57625) (by norm_num) (n := 6) (by norm_num))
    norm_num [Finset.sum_range_succ, Nat.factorial] at h
    linarith [h.1]
  constructor
  · rw [Real.le_log_iff_exp_le (by norm_num)]
    calc Real.exp 2.3 = Real.exp 0.575 ^ 4 := by rw [← Real.exp_nat_mul]; norm_num
      _ ≤ 1.7775 ^ 4 := pow_le_pow_left₀ (Real.exp_pos _).le up 4
      _ ≤ 10 := by norm_num
  · rw [Real.log_le_iff_le_exp (by norm_num)]
    calc (10 : ℝ) ≤ 1.7792 ^ 4 := by norm_num
      _ ≤ Real.exp 0.57625 ^ 4 := pow_le_pow_left₀ (by norm_num) dn 4
      _ = Real.exp 2.305 := by rw [← Real.exp_nat_mul]; norm_num

/-- The product of the two constants that turn a natural logarithm into one to the base ten. -/
def cLog : ℝ := 12102203 / 2 ^ 23 * (10100891 / 2 ^ 25)

theorem word_log2 : Ideal.ofBits .f32 0x3FB8AA3B#32 = ((12102203 / 2 ^ 23 : ℝ) : EReal) := by
  simp [Ideal.ofBits, Ideal.ieee, -EReal.coe_mul]; norm_num

theorem word_log10_2 : Ideal.ofBits .f32 0x3E9A209B#32 = ((10100891 / 2 ^ 25 : ℝ) : EReal) := by
  simp [Ideal.ofBits, Ideal.ieee, -EReal.coe_mul]; norm_num

theorem cLog_ten : 1 - 1 / 600 ≤ cLog * Real.log 10 ∧ cLog * Real.log 10 ≤ 1 + 1 / 600 := by
  obtain ⟨h1, h2⟩ := log_ten
  unfold cLog
  constructor <;> norm_num at * <;> linarith

/-- A pitch boundary is a positive real number whose logarithm is within half a bin of its grid point. -/
def PitchGrid (b : S255.Idx → EReal) : Prop :=
  ∀ k : Fin 255, ∃ r : ℝ, 0 < r ∧ b (at255 k) = (r : EReal)
    ∧ |(Real.log r / Real.log 10 + 1) * 256 - ((k.val : ℝ) + 1)| ≤ 1 / 2

/-- The pitch's position: minus infinity for a pitch of at most zero, else on the scale of its logarithm. -/
theorem pPos_bot (v : EReal) (h : v ≤ 0) : pPos (F := Ideal) v = ⊥ := by
  have hl : Ideal.log v = ⊥ := by
    induction v with
    | bot => rfl
    | top => exact absurd h (not_le.2 (by exact_mod_cast EReal.coe_lt_top 0))
    | coe x => exact if_pos (by exact_mod_cast h)
  show (Ideal.log v * Ideal.ofBits .f32 0x3FB8AA3B#32 * Ideal.ofBits .f32 0x3E9A209B#32 + Ideal.ofBits .f32 0x3F800000#32)
    * Ideal.ofBits .f32 0x43800000#32 = ⊥
  rw [hl, word_log2, word_log10_2, word_256, EReal.bot_mul_coe_of_pos (by norm_num), EReal.bot_mul_coe_of_pos (by norm_num),
    EReal.bot_add, EReal.bot_mul_coe_of_pos (by norm_num)]

theorem pPos_top : pPos (F := Ideal) (⊤ : EReal) = ⊤ := by
  show (Ideal.log ⊤ * Ideal.ofBits .f32 0x3FB8AA3B#32 * Ideal.ofBits .f32 0x3E9A209B#32 + Ideal.ofBits .f32 0x3F800000#32)
    * Ideal.ofBits .f32 0x43800000#32 = ⊤
  rw [show Ideal.log ⊤ = ⊤ from rfl, word_log2, word_log10_2, word_256, Ideal.ofBits_one_f32, EReal.top_mul_coe_of_pos (by norm_num),
    EReal.top_mul_coe_of_pos (by norm_num), show (1 : EReal) = ((1 : ℝ) : EReal) from rfl, EReal.top_add_coe,
    EReal.top_mul_coe_of_pos (by norm_num)]

theorem pPos_coe (x : ℝ) (h : 0 < x) : pPos (F := Ideal) (x : EReal) = (((Real.log x * cLog + 1) * 256 : ℝ) : EReal) := by
  show (Ideal.log (x : EReal) * Ideal.ofBits .f32 0x3FB8AA3B#32 * Ideal.ofBits .f32 0x3E9A209B#32 + Ideal.ofBits .f32 0x3F800000#32)
    * Ideal.ofBits .f32 0x43800000#32 = _
  rw [show Ideal.log (x : EReal) = (Real.log x : EReal) from if_neg (not_le.2 h), word_log2, word_log10_2, word_256, Ideal.ofBits_one_f32,
    show (1 : EReal) = ((1 : ℝ) : EReal) from rfl, ← EReal.coe_mul, ← EReal.coe_mul, ← EReal.coe_add, ← EReal.coe_mul, cLog, mul_assoc (Real.log x)]

theorem pRaw_eq (φ : EReal) : pRaw (F := Ideal) φ = stepBack φ := by
  unfold pRaw
  by_cases e : φ = (((Ideal.fptosi 32 φ).toInt : ℝ) : EReal)
  · rw [stepBack, if_pos e]
    have : FloatOps.cmpf (F := Ideal) (φ := .f32) .oeq φ
        (FloatOps.sitofp (F := Ideal) .f32 (FloatOps.fptosi (F := Ideal) (φ := .f32) 32 φ)) = 1#1 :=
      congrArg BitVec.ofBool (decide_eq_true e)
    rw [this]; rfl
  · rw [stepBack, if_neg e]
    have : FloatOps.cmpf (F := Ideal) (φ := .f32) .oeq φ
        (FloatOps.sitofp (F := Ideal) .f32 (FloatOps.fptosi (F := Ideal) (φ := .f32) 32 φ)) = 0#1 :=
      congrArg BitVec.ofBool (decide_eq_false e)
    rw [this]; rfl

/-- A pitch above the grid point that follows boundary `r`'s is above `r`. -/
theorem pitch_above (x r y : ℝ) (hr : 0 < r) (hx : 0 < x) (hy : y ≤ 254)
    (hb : (Real.log r / Real.log 10 + 1) * 256 ≤ y + 1 / 2) (hp : y + 1 < (Real.log x * cLog + 1) * 256) (hy0 : 0 ≤ y) : r < x := by
  by_contra hle
  have hl : Real.log x ≤ Real.log r := Real.log_le_log hx (not_lt.1 hle)
  obtain ⟨c1, c2⟩ := cLog_ten
  have l10 : 0 < Real.log 10 := by linarith [log_ten.1]
  have hc : 0 < cLog := by unfold cLog; norm_num
  obtain ⟨q, hq⟩ : ∃ q, q = Real.log r / Real.log 10 := ⟨_, rfl⟩
  have hlr : Real.log r = q * Real.log 10 := by rw [hq]; field_simp
  rw [← hq] at hb
  have h1 : Real.log x * cLog ≤ q * (cLog * Real.log 10) := by
    calc Real.log x * cLog ≤ Real.log r * cLog := mul_le_mul_of_nonneg_right hl hc.le
      _ = q * (cLog * Real.log 10) := by rw [hlr]; ring
  have hq' : q ≤ (y + 1 / 2) / 256 - 1 := by linarith
  have h2 : q * (cLog * Real.log 10) ≤ ((y + 1 / 2) / 256 - 1) * (cLog * Real.log 10) :=
    mul_le_mul_of_nonneg_right hq' (by positivity)
  nlinarith

/-- A pitch at or below the grid point that precedes boundary `r`'s is not above `r`. -/
theorem pitch_below (x r y : ℝ) (hr : 0 < r) (hy : y ≤ 255) (hy0 : 0 ≤ y)
    (hb : y + 1 / 2 ≤ (Real.log r / Real.log 10 + 1) * 256) (hp : (Real.log x * cLog + 1) * 256 ≤ y) : ¬ r < x := by
  intro hlt
  have hl : Real.log r ≤ Real.log x := Real.log_le_log hr hlt.le
  obtain ⟨c1, c2⟩ := cLog_ten
  have l10 : 0 < Real.log 10 := by linarith [log_ten.1]
  have hc : 0 < cLog := by unfold cLog; norm_num
  obtain ⟨q, hq⟩ : ∃ q, q = Real.log r / Real.log 10 := ⟨_, rfl⟩
  have hlr : Real.log r = q * Real.log 10 := by rw [hq]; field_simp
  rw [← hq] at hb
  have h1 : q * (cLog * Real.log 10) ≤ Real.log x * cLog := by
    calc q * (cLog * Real.log 10) = Real.log r * cLog := by rw [hlr]; ring
      _ ≤ Real.log x * cLog := mul_le_mul_of_nonneg_right hl hc.le
  have hq' : (y + 1 / 2) / 256 - 1 ≤ q := by linarith
  have h2 : ((y + 1 / 2) / 256 - 1) * (cLog * Real.log 10) ≤ q * (cLog * Real.log 10) :=
    mul_le_mul_of_nonneg_right hq' (by positivity)
  nlinarith

/-- The pitch bin is the number of boundaries below the pitch. -/
theorem pBin_eq (b : S255.Idx → EReal) (v : EReal) (hb : PitchGrid b) (hv : v ≤ 0 ∨ (((1 : ℝ) / 2 ^ 149 : ℝ) : EReal) ≤ v) :
    pBin (F := Ideal) b v = BitVec.ofNat 32 (below b v) := by
  have key := near_of_pos b v (pPos (F := Ideal) v)
    (by
      rcases hv with h | h
      · rw [pPos_bot v h]; exact EReal.bot_ne_coe _
      · induction v with
        | bot => exact absurd h (not_le.2 (EReal.bot_lt_coe _))
        | top => rw [pPos_top]; exact EReal.top_ne_coe _
        | coe x =>
          have hx : (1 : ℝ) / 2 ^ 149 ≤ x := EReal.coe_le_coe_iff.1 h
          have h0 : (0 : ℝ) < 1 / 2 ^ 149 := by positivity
          rw [pPos_coe x (h0.trans_le hx)]
          intro e
          have e := EReal.coe_injective e
          have hl : Real.log (1 / 2 ^ 149) ≤ Real.log x := Real.log_le_log h0 hx
          have h2 : Real.log 2 ≤ 1 := by
            have := Real.log_le_sub_one_of_pos (x := 2) (by norm_num)
            linarith
          rw [one_div, Real.log_inv, Real.log_pow] at hl
          push_cast at hl
          have hc : 0 < cLog ∧ cLog < 1 := by unfold cLog; norm_num
          nlinarith [hc.1, hc.2])
    (fun k hk h => by
      obtain ⟨r, hr0, er, hr⟩ := hb k
      have hr' := abs_le.1 hr
      rw [er]
      rcases lt_or_ge 0 v with h0 | h0
      · induction v with
        | bot => exact absurd h0 not_lt_bot
        | top => exact EReal.coe_lt_top _
        | coe x =>
          have hx : 0 < x := by exact_mod_cast h0
          rw [pPos_coe x hx, EReal.coe_lt_coe_iff] at h
          have hk' : (k.val : ℝ) ≤ 253 := by exact_mod_cast hk
          exact EReal.coe_lt_coe_iff.2 (pitch_above x r (k.val + 1) hr0 hx (by linarith) (by linarith [hr'.2]) (by linarith) (by positivity))
      · rw [pPos_bot v h0] at h; exact absurd h not_lt_bot)
    (fun k hk h => by
      obtain ⟨r, hr0, er, hr⟩ := hb k
      have hr' := abs_le.1 hr
      rw [er]
      rcases lt_or_ge 0 v with h0 | h0
      · induction v with
        | bot => exact absurd h0 not_lt_bot
        | top => rw [pPos_top] at h; exact absurd h (not_le.2 (EReal.coe_lt_top _))
        | coe x =>
          have hx : 0 < x := by exact_mod_cast h0
          rw [pPos_coe x hx, EReal.coe_le_coe_iff] at h
          have hk' : (k.val : ℝ) ≤ 254 := by exact_mod_cast (by have := k.isLt; omega : k.val ≤ 254)
          exact fun hh => pitch_below x r k.val hr0 (by linarith) (by positivity) (by linarith [hr'.1]) h (EReal.coe_lt_coe_iff.1 hh)
      · exact not_lt.2 (h0.trans (by exact_mod_cast hr0.le)))
  rw [← pRaw_eq] at key
  exact settle_near b v (pGuess (F := Ideal) v) key.1 key.2

end Cert.Proof.Sc

end
-- ==== Proof.Grid.lean ====
/- What the precondition says: the boundaries lie near their grid points, and the targets avoid the values that no
   guess covers. -/
module

public import proofs.«01_k».proof.Pre_on_grid
public import proofs.«01_k».proof.Proof.Gen.Pre_on_grid
public import proofs.«01_k».proof.Proof.Guess
public import Idealize.ShloMosaic.Lib.ReduceAll

@[expose] public section

noncomputable section

namespace Cert.Proof.Sc

open Idealize.ShloMosaic Idealize.ShloMosaic.TcCoe

theorem word_half : Ideal.ofBits .f32 0x3F000000#32 = ((1 / 2 : ℝ) : EReal) := by
  simp [Ideal.ofBits, Ideal.ieee, -EReal.coe_mul]; norm_num

theorem word_ten : Ideal.ofBits .f32 0x41200000#32 = ((10 : ℝ) : EReal) := by
  simp [Ideal.ofBits, Ideal.ieee, -EReal.coe_mul]; norm_num

theorem word_low : Ideal.ofBits .f32 0xCB000000#32 = ((-8388608 : ℝ) : EReal) := by
  simp [Ideal.ofBits, Ideal.ieee, -EReal.coe_mul, -EReal.coe_neg]

theorem word_least : Ideal.ofBits .f32 0x00000001#32 = ((1 / 2 ^ 149 : ℝ) : EReal) := by
  simp [Ideal.ofBits, Ideal.ieee, -EReal.coe_mul]

/-- A bit that holds a decision is 1 when the decision is true. -/
theorem of_bit {p : Prop} [Decidable p] (h : BitVec.ofBool (decide p) = 1#1) : p := by
  by_contra hn
  rw [decide_eq_false hn] at h
  exact absurd h (by decide)

/-- An extended real near a real number is a real number near it. -/
theorem near_real (x : EReal) (a e : ℝ) (h : max (x - (a : EReal)) (-(x - (a : EReal))) ≤ (e : EReal)) :
    ∃ r : ℝ, x = (r : EReal) ∧ |r - a| ≤ e := by
  induction x with
  | bot =>
    rw [EReal.bot_sub, EReal.neg_bot] at h
    exact absurd ((le_max_right _ _).trans h) (not_le.2 (EReal.coe_lt_top _))
  | top =>
    rw [EReal.top_sub_coe] at h
    exact absurd ((le_max_left _ _).trans h) (not_le.2 (EReal.coe_lt_top _))
  | coe r =>
    refine ⟨r, rfl, abs_le'.2 ⟨?_, ?_⟩⟩
    · exact EReal.coe_le_coe_iff.1 (by rw [EReal.coe_sub]; exact (le_max_left _ _).trans h)
    · exact EReal.coe_le_coe_iff.1 (by rw [EReal.coe_neg, EReal.coe_sub]; exact (le_max_right _ _).trans h)

/-- An energy boundary near its grid point, read off the comparison. -/
theorem energy_of_cmp (b g : EReal) (k : ℕ) (hg : g = (((k : ℝ) + 1 : ℝ) : EReal))
    (h : max (b * ((256 : ℝ) : EReal) - g) (-(b * ((256 : ℝ) : EReal) - g)) ≤ ((1 / 2 : ℝ) : EReal)) :
    ∃ r : ℝ, b = (r : EReal) ∧ |r * 256 - ((k : ℝ) + 1)| ≤ 1 / 2 := by
  rw [hg] at h
  obtain ⟨q, hq, hr⟩ := near_real _ _ _ h
  induction b with
  | bot => rw [EReal.bot_mul_coe_of_pos (by norm_num)] at hq; exact absurd hq (EReal.bot_ne_coe _)
  | top => rw [EReal.top_mul_coe_of_pos (by norm_num)] at hq; exact absurd hq (EReal.top_ne_coe _)
  | coe r =>
    rw [← EReal.coe_mul] at hq
    refine ⟨r, rfl, ?_⟩
    rw [EReal.coe_injective hq]; exact hr

/-- A pitch boundary near its grid point, read off the comparison. -/
theorem pitch_of_cmp (b g : EReal) (k : ℕ) (hg : g = (((k : ℝ) + 1 : ℝ) : EReal))
    (h : max ((Ideal.div (Ideal.log b) (Ideal.log ((10 : ℝ) : EReal)) + 1) * ((256 : ℝ) : EReal) - g)
      (-((Ideal.div (Ideal.log b) (Ideal.log ((10 : ℝ) : EReal)) + 1) * ((256 : ℝ) : EReal) - g)) ≤ ((1 / 2 : ℝ) : EReal)) :
    ∃ r : ℝ, 0 < r ∧ b = (r : EReal) ∧ |(Real.log r / Real.log 10 + 1) * 256 - ((k : ℝ) + 1)| ≤ 1 / 2 := by
  have l10 : 0 < Real.log 10 := by linarith [log_ten.1]
  have hl : Ideal.log ((10 : ℝ) : EReal) = (Real.log 10 : EReal) := if_neg (by norm_num)
  have hd : ∀ x : EReal, Ideal.div x (Real.log 10 : EReal) = x * ((Real.log 10)⁻¹ : ℝ) := fun x => by
    unfold Ideal.div
    rw [if_neg (by exact_mod_cast l10.ne'), EReal.coe_inv]
  rw [hg, hl, hd] at h
  obtain ⟨q, hq, hr⟩ := near_real _ _ _ h
  have hbot : Ideal.log b ≠ ⊥ := fun e => by
    rw [e, EReal.bot_mul_coe_of_pos (inv_pos.2 l10), EReal.bot_add, EReal.bot_mul_coe_of_pos (by norm_num)] at hq
    exact absurd hq (EReal.bot_ne_coe _)
  induction b with
  | bot => exact absurd rfl hbot
  | top =>
    rw [show Ideal.log ⊤ = ⊤ from rfl, EReal.top_mul_coe_of_pos (inv_pos.2 l10), show (1 : EReal) = ((1 : ℝ) : EReal) from rfl, EReal.top_add_coe,
      EReal.top_mul_coe_of_pos (by norm_num)] at hq
    exact absurd hq (EReal.top_ne_coe _)
  | coe r =>
    have h0 : 0 < r := by
      by_contra hn
      exact hbot (if_pos (not_lt.1 hn))
    refine ⟨r, h0, rfl, ?_⟩
    rw [show Ideal.log (r : EReal) = (Real.log r : EReal) from if_neg (not_le.2 h0), show (1 : EReal) = ((1 : ℝ) : EReal) from rfl,
      ← EReal.coe_mul, ← EReal.coe_add, ← EReal.coe_mul] at hq
    rw [div_eq_mul_inv, EReal.coe_injective hq]; exact hr

open Cert.Pre_on_grid in
/-- What the precondition says of its arguments. -/
theorem of_pre (a0 : FVec Ideal S16x2048x512 .f32) (a1 a2 : FVec Ideal S16x2048 .f32) (a3 a4 : FVec Ideal S255 .f32) (a5 a6 : FVec Ideal S256x512 .f32)
    (h : Cert.Pre_on_grid.fn (F := Ideal) a0 a1 a2 a3 a4 a5 a6 = fun _ => 1#1) :
    EnergyGrid a3 ∧ PitchGrid a4 ∧ (∀ i, (a1 i : EReal) ≠ ((-8388608 : ℝ) : EReal))
      ∧ ∀ i, (a2 i : EReal) ≤ 0 ∨ ((1 / 2 ^ 149 : ℝ) : EReal) ≤ a2 i := by
  have h0 := congrFun h (Shape.Idx.first Cert.Pre_on_grid.Gen.h_S_)
  haveI : Subsingleton S_.Idx := ⟨fun a b => funext fun i => i.elim0⟩
  dsimp only [fn, fn_part1, fn_part2] at h0
  obtain ⟨h0, hpt⟩ := IntOp.andi_eq_one.1 h0
  obtain ⟨h0, het⟩ := IntOp.andi_eq_one.1 h0
  obtain ⟨heb, hpb⟩ := IntOp.andi_eq_one.1 h0
  have hgrid : ∀ k : Fin 255, (((((BitVec.ofNat 32 k.val).toInt : ℝ)) : EReal) + Ideal.ofBits .f32 0x3F800000#32) = (((k.val : ℝ) + 1 : ℝ) : EReal) := fun k => by
    have e : (BitVec.ofNat 32 k.val).toInt = (k.val : ℤ) := by
      have := k.isLt
      rw [BitVec.toInt_eq_toNat_cond]; simp; omega
    rw [e, Ideal.ofBits_one_f32, EReal.coe_add, Int.cast_natCast]; rfl
  refine ⟨fun k => ?_, fun k => ?_, fun i => ?_, fun i => ?_⟩
  · have := of_bit (Host.reduce_andi_all _ _ _ _ _ heb (at255 k))
    refine energy_of_cmp (a3 (at255 k)) _ k.val (hgrid k) ?_
    rw [← word_256, ← word_half]
    exact this
  · have := of_bit (Host.reduce_andi_all _ _ _ _ _ hpb (at255 k))
    refine pitch_of_cmp (a4 (at255 k)) _ k.val (hgrid k) ?_
    rw [← word_256, ← word_half, ← word_ten, ← Ideal.ofBits_one_f32]
    exact this
  · have := of_bit (Host.reduce_andi_all _ _ _ _ _ het i)
    rw [← word_low]
    exact this
  · have := Host.reduce_andi_all _ _ _ _ _ hpt i
    rcases IntOp.ori_eq_one.1 this with hh | hh
    · left; have := of_bit hh; rw [← Ideal.ofBits_zero_f32]; exact this
    · right; have := of_bit hh; rw [← word_least]; exact this

end Cert.Proof.Sc

end
-- ==== Proof.Ref.lean ====
/- The reference at one element: the input plus the energy table's row and the pitch table's row, each the row that counts
   the boundaries below the target. -/
module

public import proofs.«01_k».proof.Proof.Gen.ReferenceIdeal.Run
public import proofs.«01_k».proof.Proof.Gen.ReferenceIdeal
public import proofs.«01_k».proof.Proof.Bins
public import Idealize.ShloMosaic.Lib.Routing.OpsSearch
public import Idealize.ShloMosaic.Lib.IndicatorCount
public import Idealize.ShloMosaic.Lib.ReduceAll

@[expose] public section

noncomputable section

namespace Cert.Proof.Ref

open Cert.ReferenceIdeal Cert.ReferenceIdeal.Gen
open Idealize.ShloMosaic Idealize.ShloMosaic.TcCoe Idealize.ShloMosaic.ValueIdx

variable {F : FTy → Type} [FloatOps F]

/-! ### The reference's pieces -/

/-- Where a boundary is below a target. -/
def mask (v : FVec F S16x2048 .f32) (b : FVec F S255 .f32) : IVec S16x2048x255 1 :=
  cmpf .olt (broadcastInDim S16x2048x255 ![0, 1, 2] bcast_S1x1x255_S16x2048x255_0_1_2 (broadcastInDim S1x1x255 ![2] bcast_S255_S1x1x255_2 b))
    (broadcastInDim S16x2048x255 ![0, 1, 2] bcast_S16x2048x1_S16x2048x255_0_1_2 (broadcastInDim S16x2048x1 ![0, 1] bcast_S16x2048_S16x2048x1_0_1 v))

/-- The count of a mask over the boundaries. -/
def tally (k : IVec S16x2048x255 1) : IVec S16x2048 32 :=
  Host.reduce IntOp.addi (extui 32 k natLt_1_32) (constantI S_ 32 0#32) reducesTo_S16x2048x255_S16x2048_d2 h_S_

/-- A row number as the lookup takes it: a negative one counts from the end, and a trailing axis of one. -/
def rowIx (n : IVec S16x2048 32) : IVec S16x2048x1 32 :=
  broadcastInDim S16x2048x1 ![0, 1] bcast_S16x2048_S16x2048x1_0_1
    (select (cmpi .slt n (broadcastInDim S16x2048 ![] bcast_S_S16x2048 (constantI S_ 32 0#32)))
      (addi n (broadcastInDim S16x2048 ![] bcast_S_S16x2048 (constantI S_ 32 256#32))) n)

/-- Whether a row number is a row of the table. -/
def inTable (ix : IVec S16x2048x1 32) : IVec S16x2048 1 :=
  Host.reduce IntOp.andi
    (andi (cmpi .sge ix (broadcastInDim S16x2048x1 ![] bcast_S_S16x2048x1 (constantI S_ 32 0#32)))
      (cmpi .sle ix (broadcastInDim S16x2048x1 ![0, 1, 2] bcast_S1x1x1_S16x2048x1_0_1_2 (broadcastInDim S1x1x1 ![2] bcast_S1_S1x1x1_2 (constantI S1 32 255#32)))))
    (constantI S_ 1 1#1) reducesTo_S16x2048x1_S16x2048_d2 h_S_

/-- The table's rows that the numbers name. -/
def rows (tab : FVec F S256x512 .f32) (ix : IVec S16x2048x1 32) : FVec F S16x2048x512 .f32 :=
  select (broadcastInDim S16x2048x512 ![0, 1] bcast_S16x2048_S16x2048x512_0_1 (inTable ix))
    (Host.gather gather_S256x512_S16x2048x1_S16x2048x512_2_0_n_n_0_2_1512 tab ix)
    (broadcastInDim S16x2048x512 ![] bcast_S_S16x2048x512 (constant S_ .f32 0x7FC00000#32))

/-- The reference's result is the input plus the two lookups. -/
theorem res_eq (m : (ℓ : Loc nD τ sig) → Buf (Elt F) ℓ) (c : Dev nD) :
    Cert.ReferenceIdeal.Value.res_main_v17 m c
      = (addf (addf (m ((c.tc : Thread nD τ).loc main_arg0))
            (rows (m ((c.tc : Thread nD τ).loc main_arg5)) (rowIx (tally (mask (m ((c.tc : Thread nD τ).loc main_arg1)) (m ((c.tc : Thread nD τ).loc main_arg3)))))))
          (rows (m ((c.tc : Thread nD τ).loc main_arg6)) (rowIx (tally (mask (m ((c.tc : Thread nD τ).loc main_arg2)) (m ((c.tc : Thread nD τ).loc main_arg4)))))) :
        FVec F S16x2048x512 .f32) := by
  unfold Cert.ReferenceIdeal.Value.res_main_v17
  rfl

/-! ### Each piece at one element -/

/-- The mask at a target and a boundary. -/
theorem mask_apply (v : FVec Ideal S16x2048 .f32) (b : FVec Ideal S255 .f32) (i : Fin 16) (j : Fin 2048) (k : Fin 255) :
    mask v b (ix3 i j k) = BitVec.ofBool (decide ((b (Sc.at255 k) : EReal) < v (ix2 i j))) := by
  have e1 : (broadcastInDim S16x2048x255 ![0, 1, 2] bcast_S1x1x255_S16x2048x255_0_1_2 (broadcastInDim S1x1x255 ![2] bcast_S255_S1x1x255_2 b)) (ix3 i j k)
      = b (Sc.at255 k) := congrArg b (funext fun a => Fin.ext (by match a with | ⟨0, _⟩ => rfl))
  have e2 : (broadcastInDim S16x2048x255 ![0, 1, 2] bcast_S16x2048x1_S16x2048x255_0_1_2 (broadcastInDim S16x2048x1 ![0, 1] bcast_S16x2048_S16x2048x1_0_1 v)) (ix3 i j k)
      = v (ix2 i j) := congrArg v (funext fun a => Fin.ext (by match a with | ⟨0, _⟩ => rfl | ⟨1, _⟩ => rfl))
  show FloatOps.cmpf (F := Ideal) .olt _ _ = _
  rw [e1, e2]
  rfl

/-- The tally at a target is the number of boundaries marked. -/
theorem tally_apply (k : IVec S16x2048x255 1) (i : Fin 16) (j : Fin 2048) :
    tally k (ix2 i j) = BitVec.ofNat 32 (Finset.univ.filter fun q : Fin 255 => k (ix3 i j q) = 1#1).card := by
  classical
  have hdrop : ∀ y : S16x2048x255.Idx, reducesTo_S16x2048x255_S16x2048_d2.drop y = ix2 i j ↔ y 0 = i ∧ y 1 = j := by
    intro y
    have hv0 : (reducesTo_S16x2048x255_S16x2048_d2.drop y 0 : Nat) = y 0 := Shape.ReducesTo.drop_apply_val _ y 0
    have hv1 : (reducesTo_S16x2048x255_S16x2048_d2.drop y 1 : Nat) = y 1 := Shape.ReducesTo.drop_apply_val _ y 1
    constructor
    · intro e
      rw [e] at hv0 hv1
      exact ⟨Fin.ext hv0.symm, Fin.ext hv1.symm⟩
    · rintro ⟨e1, e2⟩
      funext a
      match a with
      | ⟨0, _⟩ => exact Fin.ext (hv0.trans (congrArg Fin.val e1))
      | ⟨1, _⟩ => exact Fin.ext (hv1.trans (congrArg Fin.val e2))
  unfold tally
  rw [Host.reduce_eq_fold]
  refine (IndicatorCount.fold_addi_setWidth_eq_card k _).trans (congrArg (BitVec.ofNat 32) ?_)
  refine Finset.card_bij' (fun y _ => y 2) (fun q _ => ix3 i j q) ?_ ?_ ?_ ?_
  · intro y hy
    obtain ⟨h1, h2⟩ := Finset.mem_filter.1 hy
    obtain ⟨r1, r2⟩ := (hdrop y).1 (Finset.mem_filter.1 h1).2
    refine Finset.mem_filter.2 ⟨Finset.mem_univ _, ?_⟩
    rw [← h2]
    refine congrArg k (funext fun a => ?_)
    match a with
    | ⟨0, _⟩ => exact r1.symm
    | ⟨1, _⟩ => exact r2.symm
    | ⟨2, _⟩ => rfl
  · intro q hq
    exact Finset.mem_filter.2 ⟨Finset.mem_filter.2 ⟨Finset.mem_univ _, (hdrop _).2 ⟨rfl, rfl⟩⟩, (Finset.mem_filter.1 hq).2⟩
  · intro y hy
    obtain ⟨r1, r2⟩ := (hdrop y).1 (Finset.mem_filter.1 (Finset.mem_filter.1 hy).1).2
    funext a
    match a with
    | ⟨0, _⟩ => exact r1.symm
    | ⟨1, _⟩ => exact r2.symm
    | ⟨2, _⟩ => rfl
  · intro q _; rfl

/-- The count of the boundaries below a target. -/
theorem count_apply (v : FVec Ideal S16x2048 .f32) (b : FVec Ideal S255 .f32) (i : Fin 16) (j : Fin 2048) :
    tally (mask v b) (ix2 i j) = BitVec.ofNat 32 (Sc.below b (v (ix2 i j))) := by
  rw [tally_apply]
  refine congrArg (BitVec.ofNat 32) (congrArg Finset.card (Finset.filter_congr fun k _ => ?_))
  rw [mask_apply]
  by_cases h : (b (Sc.at255 k) : EReal) < v (ix2 i j) <;> simp [h]

/-- A count as a row number. -/
theorem rowIx_apply (n : IVec S16x2048 32) (i : Fin 16) (j : Fin 2048) (r : Fin 256) (h : n (ix2 i j) = BitVec.ofNat 32 r.val) :
    rowIx n (ix3 i j 0) = BitVec.ofNat 32 r.val := by
  let w : IVec S16x2048 32 := select (cmpi .slt n (broadcastInDim S16x2048 ![] bcast_S_S16x2048 (constantI S_ 32 0#32)))
      (addi n (broadcastInDim S16x2048 ![] bcast_S_S16x2048 (constantI S_ 32 256#32))) n
  have e : rowIx n (ix3 i j 0) = w (ix2 i j) :=
    congrArg w (funext fun a => Fin.ext (by match a with | ⟨0, _⟩ => rfl | ⟨1, _⟩ => rfl))
  have e' : w (ix2 i j) = Scalar.select (IntOp.cmpi .slt (n (ix2 i j)) 0#32) (IntOp.addi (n (ix2 i j)) 256#32) (n (ix2 i j)) := rfl
  rw [e, e', h]
  have all : ∀ r : Fin 256, Scalar.select (IntOp.cmpi .slt (BitVec.ofNat 32 r.val) 0#32) (IntOp.addi (BitVec.ofNat 32 r.val) 256#32)
      (BitVec.ofNat 32 r.val) = BitVec.ofNat 32 r.val := by decide +kernel
  exact all r

/-- Row numbers below 256 are in the table. -/
theorem inTable_apply (ix : IVec S16x2048x1 32) (h : ∀ i j, ∃ r : Fin 256, ix (ix3 i j 0) = BitVec.ofNat 32 r.val) (y : S16x2048.Idx) :
    inTable ix y = 1#1 := by
  refine Host.reduce_andi_one _ _ _ _ _ rfl fun z => ?_
  obtain ⟨r, hr⟩ := h (z 0) (z 1)
  have hz : z = ix3 (z 0) (z 1) 0 := by
    refine (eq_ix3 z).trans (congrArg (ix3 (z 0) (z 1)) (Subsingleton.elim (α := Fin 1) _ _))
  have e : (andi (cmpi .sge ix (broadcastInDim S16x2048x1 ![] bcast_S_S16x2048x1 (constantI S_ 32 0#32)))
      (cmpi .sle ix (broadcastInDim S16x2048x1 ![0, 1, 2] bcast_S1x1x1_S16x2048x1_0_1_2 (broadcastInDim S1x1x1 ![2] bcast_S1_S1x1x1_2 (constantI S1 32 255#32))))) z
      = IntOp.andi (IntOp.cmpi .sge (ix z) 0#32) (IntOp.cmpi .sle (ix z) 255#32) := rfl
  have all : ∀ r : Fin 256, IntOp.andi (IntOp.cmpi .sge (BitVec.ofNat 32 r.val) 0#32) (IntOp.cmpi .sle (BitVec.ofNat 32 r.val) 255#32) = 1#1 := by
    decide +kernel
  rw [e, (congrArg ix hz).trans hr]
  exact all r

/-- The gather at an element: the named row's element. -/
theorem gather_apply {α : Type} (tab : S256x512.Idx → α) (ix : IVec S16x2048x1 32) (i : Fin 16) (j : Fin 2048) (y : Fin 512) (r : Fin 256)
    (h : ix (ix3 i j 0) = BitVec.ofNat 32 r.val) :
    Host.gather gather_S256x512_S16x2048x1_S16x2048x512_2_0_n_n_0_2_1512 tab ix (ix3 i j y) = tab (ix2 r y) := by
  obtain ⟨d, hd⟩ : ∃ d, d = gather_S256x512_S16x2048x1_S16x2048x512_2_0_n_n_0_2_1512 := ⟨_, rfl⟩
  have hob : d.operandBatchingDims = [] := by rw [hd]; rfl
  have hcoll : d.collapsedSliceDims = [0] := by rw [hd]; rfl
  have hsim : d.startIndexMap = [0] := by rw [hd]; rfl
  have hbN : ∀ a, a ∉ d.operandBatchingDims := fun a => by rw [hob]; exact List.not_mem_nil
  rw [← hd]
  unfold Host.gather
  refine congrArg tab (funext fun a => Fin.ext ?_)
  match a with
  | ⟨0, _⟩ =>
    have hk : (0 : Fin 2) ∉ d.sKept := fun hh => ((d.mem_sKept 0).1 hh).1 (by rw [hcoll]; exact List.mem_singleton.2 rfl)
    have hm : (0 : Fin 2) ∈ d.startIndexMap := by rw [hsim]; exact List.mem_singleton.2 rfl
    show d.start (ix3 i j y) ix 0 + d.batchCoord (ix3 i j y) 0 + d.offCoord (ix3 i j y) 0 = r.val
    rw [d.batchCoord_eq_zero _ _ (hbN 0), d.offCoord_eq_zero _ _ hk]
    simp only [Nat.add_zero]
    unfold GatherDims.start
    rw [dif_pos hm]
    have hsi : d.siIdx (ix3 i j y) ⟨d.startIndexMap.idxOf 0, List.idxOf_lt_length_iff.2 hm⟩ = ix3 i j 0 := by
      subst hd
      funext b
      refine Fin.ext ?_
      match b with
      | ⟨0, _⟩ => rfl
      | ⟨1, _⟩ => rfl
      | ⟨2, _⟩ => rfl
    rw [hsi, h]
    have hsl : d.sliceSizes 0 = 1 := by rw [hd]; rfl
    rw [hsl]
    have all : ∀ r : Fin 256, min (BitVec.ofNat 32 r.val).toInt.toNat (256 - 1) = r.val := by decide +kernel
    exact all r
  | ⟨1, _⟩ =>
    have hk : (1 : Fin 2) ∈ d.sKept := (d.mem_sKept 1).2 ⟨by rw [hcoll]; decide, hbN 1⟩
    have hm : (1 : Fin 2) ∉ d.startIndexMap := by rw [hsim]; decide
    show d.start (ix3 i j y) ix 1 + d.batchCoord (ix3 i j y) 1 + d.offCoord (ix3 i j y) 1 = y.val
    rw [d.batchCoord_eq_zero _ _ (hbN 1), Nat.add_zero]
    unfold GatherDims.start GatherDims.offCoord
    rw [dif_neg hm, dif_pos hk, Nat.zero_add]
    subst hd
    rfl

/-- A lookup at an element, all row numbers being in the table. -/
theorem rows_apply (tab : FVec Ideal S256x512 .f32) (ix : IVec S16x2048x1 32) (hall : ∀ i j, ∃ r : Fin 256, ix (ix3 i j 0) = BitVec.ofNat 32 r.val)
    (i : Fin 16) (j : Fin 2048) (y : Fin 512) (r : Fin 256)
    (h : ix (ix3 i j 0) = BitVec.ofNat 32 r.val) : rows tab ix (ix3 i j y) = tab (ix2 r y) := by
  have e : (broadcastInDim S16x2048x512 ![0, 1] bcast_S16x2048_S16x2048x512_0_1 (inTable ix)) (ix3 i j y) = 1#1 := inTable_apply ix hall _
  have s : rows tab ix (ix3 i j y)
      = Scalar.select ((broadcastInDim S16x2048x512 ![0, 1] bcast_S16x2048_S16x2048x512_0_1 (inTable ix)) (ix3 i j y))
          (Host.gather gather_S256x512_S16x2048x1_S16x2048x512_2_0_n_n_0_2_1512 tab ix (ix3 i j y))
          ((broadcastInDim S16x2048x512 ![] bcast_S_S16x2048x512 (constant (F := Ideal) S_ .f32 0x7FC00000#32)) (ix3 i j y)) := rfl
  rw [s, e, gather_apply tab ix i j y r h]
  rfl

/-- The row that counts the boundaries below a target. -/
def rowOf (b : FVec Ideal S255 .f32) (v : EReal) : Fin 256 := ⟨Sc.below b v, Nat.lt_succ_of_le (Sc.below_le b v)⟩

/-- The lookup by the count, at an element. -/
theorem lookup_apply (tab : FVec Ideal S256x512 .f32) (v : FVec Ideal S16x2048 .f32) (b : FVec Ideal S255 .f32)
    (i : Fin 16) (j : Fin 2048) (y : Fin 512) :
    rows tab (rowIx (tally (mask v b))) (ix3 i j y) = tab (ix2 (rowOf b (v (ix2 i j))) y) := by
  have h : ∀ i j, rowIx (tally (mask v b)) (ix3 i j 0) = BitVec.ofNat 32 (rowOf b (v (ix2 i j))).val := fun i j =>
    rowIx_apply _ i j _ (count_apply v b i j)
  exact rows_apply tab _ (fun i j => ⟨_, h i j⟩) i j y _ (h i j)

/-- The sum that both programs return, at an element. -/
def total (x : S16x2048x512.Idx → EReal) (et pt : S16x2048.Idx → EReal) (eb pb : S255.Idx → EReal) (te tp : S256x512.Idx → EReal)
    (i : Fin 16) (j : Fin 2048) (y : Fin 512) : EReal :=
  x (ix3 i j y) + te (ix2 (rowOf eb (et (ix2 i j))) y) + tp (ix2 (rowOf pb (pt (ix2 i j))) y)

/-- The reference's result at an element. -/
theorem res_apply (m : (ℓ : Loc nD τ sig) → Buf (Elt Ideal) ℓ) (c : Dev nD) (i : Fin 16) (j : Fin 2048) (y : Fin 512) :
    (Cert.ReferenceIdeal.Value.res_main_v17 m c : FVec Ideal S16x2048x512 .f32) (ix3 i j y)
      = total (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) i j y := by
  have e := congrFun (res_eq m c) (ix3 i j y)
  refine e.trans ?_
  refine congrArg₂ (fun a b : EReal => a + b) (congrArg (fun a : EReal => _ + a) ?_) ?_
  · exact lookup_apply _ _ _ i j y
  · exact lookup_apply _ _ _ i j y

end Cert.Proof.Ref

end
-- ==== Proof.Payload.lean ====
module

public import proofs.«01_k».proof.Proof.Gen.KernelIdeal.Skeleton
public import Idealize.ShloMosaic.Lib.Pipeline.Value
public import Idealize.ShloMosaic.Lib.ValueIdx
public import Idealize.ShloMosaic.PureOps.Ideal.Laws
public import Idealize.ShloMosaic.Lib.Pointwise.Contract

/-!
The block that the TensorCore's kernel stores, at one element: the block of the input plus the two table rows that the bins
name. The matrix product picks the rows, its left factor being one in exactly two places of each column.
-/

@[expose] public section
noncomputable section
namespace Cert.Proof.Sc
open Cert.KernelIdeal Cert.KernelIdeal.Gen
open Idealize.ShloMosaic Idealize.ShloMosaic.TcCoe

/-! ### The selection as a sum -/

/-- A condition as the number the product multiplies by. -/
theorem cond_value (b : BitVec 1) : (FloatOps.sitofp (F := Ideal) .f32 (b.setWidth 32) : EReal) = if b = 1#1 then 1 else 0 := by
  show ((((b.setWidth 32).toInt : ℤ) : ℝ) : EReal) = _
  have hb : b = 0#1 ∨ b = 1#1 := by
    have all : ∀ b : BitVec 1, b = 0#1 ∨ b = 1#1 := by decide
    exact all b
  rcases hb with rfl | rfl
  · rw [if_neg (by decide)]
    simp
  · rw [if_pos rfl]
    simp

/-- Row `r` is marked where it is the first bin or 256 more than the second. -/
theorem mark_iff (r : Fin 512) (e p : Fin 256) :
    IntOp.ori (IntOp.cmpi .eq (BitVec.ofNat 32 r.val) (BitVec.ofNat 32 e.val))
        (IntOp.cmpi .eq (BitVec.ofNat 32 r.val) (IntOp.addi (BitVec.ofNat 32 p.val) 256#32)) = 1#1
      ↔ r.val = e.val ∨ r.val = p.val + 256 := by
  have h1 : IntOp.cmpi .eq (BitVec.ofNat 32 r.val) (BitVec.ofNat 32 e.val) = BitVec.ofBool (decide (r.val = e.val)) := by
    show BitVec.ofBool (BitVec.ofNat 32 r.val == BitVec.ofNat 32 e.val) = _
    refine congrArg BitVec.ofBool ?_
    rw [Bool.eq_iff_iff, beq_iff_eq, decide_eq_true_iff]
    constructor
    · intro h
      have := congrArg BitVec.toNat h
      simp only [BitVec.toNat_ofNat] at this
      omega
    · intro h; rw [h]
  have h2 : IntOp.cmpi .eq (BitVec.ofNat 32 r.val) (IntOp.addi (BitVec.ofNat 32 p.val) 256#32) = BitVec.ofBool (decide (r.val = p.val + 256)) := by
    show BitVec.ofBool (BitVec.ofNat 32 r.val == BitVec.ofNat 32 p.val + 256#32) = _
    refine congrArg BitVec.ofBool ?_
    rw [Bool.eq_iff_iff, beq_iff_eq, decide_eq_true_iff]
    constructor
    · intro h
      have := congrArg BitVec.toNat h
      simp only [BitVec.toNat_ofNat, BitVec.toNat_add] at this
      omega
    · intro h
      apply BitVec.eq_of_toNat_eq
      simp only [BitVec.toNat_ofNat, BitVec.toNat_add]
      omega
  rw [h1, h2]
  have all : ∀ u w : Bool, IntOp.ori (BitVec.ofBool u) (BitVec.ofBool w) = 1#1 ↔ u = true ∨ w = true := by decide
  exact (all _ _).trans (by simp only [decide_eq_true_iff])

/-- The sum over the rows with the marks as factors is the sum of the two marked rows. -/
theorem sum_marked (T : Fin 512 → EReal) (e p : Fin 512) (h : e ≠ p) :
    ∑ r : Fin 512, (if r = e ∨ r = p then (1 : EReal) else 0) * T r = T e + T p := by
  have key : ∀ r : Fin 512, (if r = e ∨ r = p then (1 : EReal) else 0) * T r = (if r = e then T r else 0) + (if r = p then T r else 0) := by
    intro r
    by_cases c1 : r = e
    · have c2 : r ≠ p := fun c => h (c1.symm.trans c)
      rw [if_pos (Or.inl c1), if_pos c1, if_neg c2, one_mul, add_zero]
    · by_cases c2 : r = p
      · rw [if_pos (Or.inr c2), if_neg c1, if_pos c2, one_mul, zero_add]
      · rw [if_neg (by rintro (c | c); exacts [c1 c, c2 c]), if_neg c1, if_neg c2, zero_mul, add_zero]
  rw [Finset.sum_congr rfl fun r _ => key r, Finset.sum_add_distrib, Finset.sum_ite_eq' Finset.univ e T, Finset.sum_ite_eq' Finset.univ p T,
    if_pos (Finset.mem_univ e), if_pos (Finset.mem_univ p)]

/-! ### The pieces of the payload -/

/-- The bins of a block as one row. -/
def flat (v : S2x16x128.Idx → BitVec 32) : IVec S1x4096 32 :=
  shapeCast S1x4096 (shapeCast S2x16x128 v shapeCasts_S2x16x128_S2x16x128) shapeCasts_S2x16x128_S1x4096

/-- The place in the row of an element of the block. -/
def colOf (a : Fin 2) (j : Fin 2048) : Fin 4096 := ⟨a.val * 2048 + j.val, by omega⟩

/-- An element's place among the lane groups. -/
def laneIx (a : Fin 2) (j : Fin 2048) : S2x16x128.Idx :=
  ValueIdx.ix3 (n0 := 2) (n1 := 16) (n2 := 128) a ⟨j.val / 128, by omega⟩ ⟨j.val % 128, by omega⟩

theorem flat_apply (v : S2x16x128.Idx → BitVec 32) (a : Fin 2) (j : Fin 2048) :
    flat v (ValueIdx.ix2 (n0 := 1) (n1 := 4096) 0 (colOf a j)) = v (laneIx a j) := by
  unfold flat
  refine (shapeCast_apply _ _ _ (laneIx a j) ?_).trans (shapeCast_apply _ _ _ (laneIx a j) rfl)
  rw [Shape.rowMajor_val_three, Shape.rowMajor_val_two]
  show (a.val * 16 + j.val / 128) * 128 + j.val % 128 = 0 * 4096 + (a.val * 2048 + j.val)
  omega

/-- The marks: one where the row is a bin's. -/
def marks (v3 v6 : S2x16x128.Idx → BitVec 32) : IVec S512x4096 1 :=
  ori (cmpi .eq (iota .tc S512x4096 32 [0] iota_S512x4096_d0_w32) (broadcastTo S512x4096 (flat v3) broadcasts_S1x4096_S512x4096))
    (cmpi .eq (iota .tc S512x4096 32 [0] iota_S512x4096_d0_w32)
      (broadcastTo S512x4096 (addi (flat v6) (broadcast S1x4096 256#32)) broadcasts_S1x4096_S512x4096))

theorem marks_apply (v3 v6 : S2x16x128.Idx → BitVec 32) (r : Fin 512) (a : Fin 2) (j : Fin 2048) :
    marks v3 v6 (ValueIdx.ix2 r (colOf a j))
      = IntOp.ori (IntOp.cmpi .eq (BitVec.ofNat 32 r.val) (v3 (laneIx a j)))
          (IntOp.cmpi .eq (BitVec.ofNat 32 r.val) (IntOp.addi (v6 (laneIx a j)) 256#32)) := by
  have hi : iota .tc S512x4096 32 [0] iota_S512x4096_d0_w32 (ValueIdx.ix2 r (colOf a j)) = BitVec.ofNat 32 r.val := by
    show BitVec.ofNat 32 (0 * 512 + r.val) = _
    rw [Nat.zero_mul, Nat.zero_add]
  have hb : ∀ f : IVec S1x4096 32, broadcastTo S512x4096 f broadcasts_S1x4096_S512x4096 (ValueIdx.ix2 r (colOf a j)) = f (ValueIdx.ix2 (n0 := 1) (n1 := 4096) 0 (colOf a j)) := by
    intro f
    refine broadcastTo_apply f _ _ _ fun b => ?_
    match b with
    | ⟨0, _⟩ => rfl
    | ⟨1, _⟩ => rfl
  show IntOp.ori (IntOp.cmpi .eq (iota .tc S512x4096 32 [0] iota_S512x4096_d0_w32 (ValueIdx.ix2 r (colOf a j))) (broadcastTo S512x4096 (flat v3) broadcasts_S1x4096_S512x4096 (ValueIdx.ix2 r (colOf a j))))
    (IntOp.cmpi .eq (iota .tc S512x4096 32 [0] iota_S512x4096_d0_w32 (ValueIdx.ix2 r (colOf a j)))
      (broadcastTo S512x4096 (addi (flat v6) (broadcast S1x4096 256#32)) broadcasts_S1x4096_S512x4096 (ValueIdx.ix2 r (colOf a j)))) = _
  rw [hi, hb, hb, flat_apply]
  show IntOp.ori _ (IntOp.cmpi .eq _ (IntOp.addi (flat v6 (ValueIdx.ix2 (n0 := 1) (n1 := 4096) 0 (colOf a j))) 256#32)) = _
  rw [flat_apply]

/-- The product's left factor. -/
def picks (v3 v6 : S2x16x128.Idx → BitVec 32) : FVec Ideal S512x4096 .bf16 :=
  truncf .bf16 (sitofp .f32 (extui 32 (marks v3 v6) natLt_1_32) : FVec Ideal S512x4096 .f32) bitsLt_bf16_f32

theorem picks_apply (v3 v6 : S2x16x128.Idx → BitVec 32) (r : Fin 512) (a : Fin 2) (j : Fin 2048) (e p : Fin 256)
    (he : v3 (laneIx a j) = BitVec.ofNat 32 e.val) (hp : v6 (laneIx a j) = BitVec.ofNat 32 p.val) :
    (picks v3 v6 (ValueIdx.ix2 r (colOf a j)) : EReal)
      = if r = (⟨e.val, by omega⟩ : Fin 512) ∨ r = (⟨p.val + 256, by omega⟩ : Fin 512) then 1 else 0 := by
  have h : (picks v3 v6 (ValueIdx.ix2 r (colOf a j)) : EReal) = if marks v3 v6 (ValueIdx.ix2 r (colOf a j)) = 1#1 then 1 else 0 :=
    cond_value (marks v3 v6 (ValueIdx.ix2 r (colOf a j)))
  rw [h, marks_apply, he, hp]
  refine if_congr ((mark_iff r e p).trans ?_) rfl rfl
  simp only [Fin.ext_iff]

/-- The product at one element: the two rows' sum. -/
theorem product_apply (v3 v6 : S2x16x128.Idx → BitVec 32) (tab : FVec Ideal S512x512 .bf16) (a : Fin 2) (j : Fin 2048) (y : Fin 512) (e p : Fin 256)
    (he : v3 (laneIx a j) = BitVec.ofNat 32 e.val) (hp : v6 (laneIx a j) = BitVec.ofNat 32 p.val) :
    (matmul dot_S512x4096_S512x512_S4096x512_0_0_1_1_n_n none (picks v3 v6) tab (constant (F := Ideal) S4096x512 .f32 0x00000000#32)
        (ValueIdx.ix2 (colOf a j) y) : EReal)
      = (fun u w : EReal => u + w) (tab (ValueIdx.ix2 (n0 := 512) (n1 := 512) ⟨e.val, by omega⟩ y)) (tab (ValueIdx.ix2 (n0 := 512) (n1 := 512) ⟨p.val + 256, by omega⟩ y)) := by
  have h := Ideal.matmul_apply₁_of dot_S512x4096_S512x512_S4096x512_0_0_1_1_n_n (a := 0) rfl (K := 512) rfl (picks v3 v6) tab
    (constant (F := Ideal) S4096x512 .f32 0x00000000#32) (ValueIdx.ix2 (colOf a j) y) (fun k => ValueIdx.ix2 k (colOf a j)) (fun k => ValueIdx.ix2 k y)
    (fun k => funext fun b => Fin.ext (by match b with | ⟨0, _⟩ => rfl | ⟨1, _⟩ => rfl))
    (fun k => funext fun b => Fin.ext (by match b with | ⟨0, _⟩ => rfl | ⟨1, _⟩ => rfl))
  refine Eq.trans h ?_
  have hz : (constant (F := Ideal) S4096x512 .f32 0x00000000#32 (ValueIdx.ix2 (colOf a j) y) : EReal) = 0 := Ideal.ofBits_zero_f32
  have hs := sum_marked (fun r => (tab (ValueIdx.ix2 r y) : EReal)) ⟨e.val, by omega⟩ ⟨p.val + 256, by omega⟩ (by
    intro c
    have := congrArg Fin.val c
    simp only at this
    omega)
  rw [hz, zero_add]
  refine Eq.trans (Finset.sum_congr rfl fun r _ => ?_) hs
  exact congrArg (fun u : EReal => u * _) (picks_apply v3 v6 r a j e p he hp)

/-- The stored block at one element. -/
theorem pay3_apply (v3 v6 : S2x16x128.Idx → BitVec 32) (tab : FVec Ideal S512x512 .bf16) (x : FVec Ideal S2x2048x512 .f32)
    (a : Fin 2) (j : Fin 2048) (y : Fin 512) (e p : Fin 256)
    (he : v3 (laneIx a j) = BitVec.ofNat 32 e.val) (hp : v6 (laneIx a j) = BitVec.ofNat 32 p.val) :
    (k1_pay3 (F := Ideal) v3 v6 tab x (ValueIdx.ix3 a j y) : EReal)
      = (fun u w z : EReal => u + (w + z)) (x (ValueIdx.ix3 a j y)) (tab (ValueIdx.ix2 (n0 := 512) (n1 := 512) ⟨e.val, by omega⟩ y))
          (tab (ValueIdx.ix2 (n0 := 512) (n1 := 512) ⟨p.val + 256, by omega⟩ y)) := by
  have e0 : k1_pay3 (F := Ideal) v3 v6 tab x
      = shapeCast S2x2048x512 (addf (shapeCast S4096x512 x shapeCasts_S2x2048x512_S4096x512)
          (matmul dot_S512x4096_S512x512_S4096x512_0_0_1_1_n_n none (picks v3 v6) tab (constant (F := Ideal) S4096x512 .f32 0x00000000#32)))
        shapeCasts_S4096x512_S2x2048x512 := rfl
  have r1 : (S4096x512.rowMajor (ValueIdx.ix2 (colOf a j) y)).val = (S2x2048x512.rowMajor (ValueIdx.ix3 a j y)).val := by
    rw [Shape.rowMajor_val_three, Shape.rowMajor_val_two]
    rfl
  rw [e0]
  refine (shapeCast_apply _ shapeCasts_S4096x512_S2x2048x512 (ValueIdx.ix3 a j y) (ValueIdx.ix2 (colOf a j) y) r1).trans ?_
  refine congrArg₂ (fun u w : EReal => u + w) ?_ (product_apply v3 v6 tab a j y e p he hp)
  exact shapeCast_apply x shapeCasts_S2x2048x512_S4096x512 (ValueIdx.ix2 (colOf a j) y) (ValueIdx.ix3 a j y) r1.symm

end Cert.Proof.Sc
end
-- ==== Proof.Equation.lean ====
module

public import proofs.«01_k».proof.Proof.Launch
public import proofs.«01_k».proof.Proof.Guess
public import proofs.«01_k».proof.Proof.Ref
public import proofs.«01_k».proof.Proof.Payload

/-!
The kernel's result at one element: the input plus the energy table's row and the pitch table's row, each the row that counts
the boundaries below the target.
-/

@[expose] public section
noncomputable section
namespace Cert.Proof.Sc
open Cert.KernelIdeal Cert.KernelIdeal.Gen
open Idealize.ShloMosaic Idealize.ShloMosaic.TcCoe

variable (m : (ℓ : Loc nD τ sig) → Buf (Elt Ideal) ℓ)

/-! ### The arrays that the TensorCore's call reads -/

/-- The split targets at the place of row `i`, lane group `j / 128`, lane `j % 128`. -/
theorem split_apply (f : S16x2048.Idx → Ideal .f32) (i : Fin 16) (j : Fin 2048) :
    split4 f (ix4 (ValueIdx.ix3 (n0 := 16) (n1 := 16) (n2 := 128) i ⟨j.val / 128, by omega⟩ ⟨j.val % 128, by omega⟩))
      = f (ValueIdx.ix2 i j) := by
  unfold split4
  refine (transpose_apply _ _ _ _ (ValueIdx.ix4 (n0 := 2) (n1 := 8) (n2 := 16) (n3 := 128) ⟨i.val / 8, by omega⟩ ⟨i.val % 8, by omega⟩
    ⟨j.val / 128, by omega⟩ ⟨j.val % 128, by omega⟩) fun b => ?_).trans ?_
  · match b with
    | ⟨0, _⟩ => rfl
    | ⟨1, _⟩ => rfl
    | ⟨2, _⟩ => rfl
    | ⟨3, _⟩ => rfl
  · refine shapeCast_apply _ _ _ _ ?_
    rw [Shape.rowMajor_val_four, Shape.rowMajor_val_two]
    show i.val * 2048 + j.val = ((i.val / 8 * 8 + i.val % 8) * 16 + j.val / 128) * 128 + j.val % 128
    omega

/-- The stacked tables' upper half is the energy table. -/
theorem stack_lo (X4 X5 : S256x512.Idx → Ideal .f32) (e : Fin 256) (y : Fin 512) :
    stack (F := Ideal) X4 X5 (ValueIdx.ix2 (n0 := 512) (n1 := 512) ⟨e.val, by omega⟩ y) = X4 (ValueIdx.ix2 e y) := by
  have h : ((ValueIdx.ix2 (n0 := 512) (n1 := 512) ⟨e.val, by omega⟩ y : S512x512.Idx) 0).val < 256 := e.isLt
  unfold stack
  rw [dif_pos h]
  exact shapeCast_apply (truncf .bf16 X4 bitsLt_bf16_f32) shapeCasts_S256x512_S256x512 _ (ValueIdx.ix2 e y) rfl

/-- The stacked tables' lower half is the pitch table. -/
theorem stack_hi (X4 X5 : S256x512.Idx → Ideal .f32) (p : Fin 256) (y : Fin 512) :
    stack (F := Ideal) X4 X5 (ValueIdx.ix2 (n0 := 512) (n1 := 512) ⟨p.val + 256, by omega⟩ y) = X5 (ValueIdx.ix2 p y) := by
  have h : ¬ ((ValueIdx.ix2 (n0 := 512) (n1 := 512) ⟨p.val + 256, by omega⟩ y : S512x512.Idx) 0).val < 256 := by
    show ¬ p.val + 256 < 256
    omega
  unfold stack
  rw [dif_neg h]
  refine (shapeCast_apply (truncf .bf16 X5 bitsLt_bf16_f32) shapeCasts_S256x512_S256x512 _ (ValueIdx.ix2 p y) ?_)
  refine congrArg (fun z => (S256x512.rowMajor z).val) (funext fun a => Fin.ext ?_)
  match a with
  | ⟨0, _⟩ => show p.val = p.val + 256 - 256; omega
  | ⟨1, _⟩ => rfl

/-! ### The bins are the counts -/

/-- Every energy is other than the one whose position wraps. -/
def EnergyOk (f : S16x2048.Idx → EReal) : Prop := ∀ i, f i ≠ ((-8388608 : ℝ) : EReal)

/-- Every pitch is at most zero or at least the smallest positive float. -/
def PitchOk (f : S16x2048.Idx → EReal) : Prop := ∀ i, f i ≤ 0 ∨ ((1 / 2 ^ 149 : ℝ) : EReal) ≤ f i

/-- The facts about the arguments that the precondition gives. -/
structure Good (c : Dev nD) : Prop where
  eb : EnergyGrid (m (ebLoc c))
  pb : PitchGrid (m (pbLoc c))
  et : EnergyOk (m (etLoc c))
  pt : PitchOk (m (ptLoc c))

/-- Where the bin of row `i`, column `j` is written. -/
def binIx (i : Fin 16) (j : Fin 2048) : S16x16x128.Idx :=
  ValueIdx.ix3 (n0 := 16) (n1 := 16) (n2 := 128) i ⟨j.val / 128, by omega⟩ ⟨j.val % 128, by omega⟩

theorem eRes_apply (c : Dev nD) (g : Good m c) (i : Fin 16) (j : Fin 2048) :
    eRes m c (binIx i j) = BitVec.ofNat 32 (Ref.rowOf (m (ebLoc c)) ((m (etLoc c) : S16x2048.Idx → EReal) (ValueIdx.ix2 i j))).val := by
  have h : (et4 m c (ix4 (binIx i j)) : EReal) = (m (etLoc c) : S16x2048.Idx → EReal) (ValueIdx.ix2 i j) := split_apply _ i j
  have e := eBin_eq (m (ebLoc c)) _ g.eb (g.et (ValueIdx.ix2 i j))
  exact (congrArg (fun v : EReal => eBin (F := Ideal) (m (ebLoc c)) v) h).trans e

theorem pRes_apply (c : Dev nD) (g : Good m c) (i : Fin 16) (j : Fin 2048) :
    pRes m c (binIx i j) = BitVec.ofNat 32 (Ref.rowOf (m (pbLoc c)) ((m (ptLoc c) : S16x2048.Idx → EReal) (ValueIdx.ix2 i j))).val := by
  have h : (pt4 m c (ix4 (binIx i j)) : EReal) = (m (ptLoc c) : S16x2048.Idx → EReal) (ValueIdx.ix2 i j) := split_apply _ i j
  have e := pBin_eq (m (pbLoc c)) _ g.pb (g.pt (ValueIdx.ix2 i j))
  exact (congrArg (fun v : EReal => pBin (F := Ideal) (m (pbLoc c)) v) h).trans e

/-! ### The blocks at a grid point -/

theorem idx0 : ∀ t : Fin cfg1.N, win1_0.index t 0 = t.val := by decide +kernel
theorem idx1 : ∀ t : Fin cfg1.N, win1_1.index t 0 = t.val := by decide +kernel
theorem idx2 : ∀ t : Fin cfg1.N, win1_2.index t 0 = t.val := by decide +kernel
theorem idx5 : ∀ t : Fin cfg1.N, win1_5.index t 0 = t.val := by decide +kernel

/-- The row of the arrays that a grid point's block has as its row `a`. -/
def rowAt (t : Fin cfg1.N) (a : Fin 2) : Fin 16 := ⟨t.val * 2 + a.val, by have : t.val < 8 := t.isLt; omega⟩

variable (V : (c : Dev nD) → (b : Ref sig .tc) → Buf (Elt Ideal) ((c : Thread nD τ).loc b))

theorem blk0_apply (c : Dev nD) (t : Fin cfg1.N) (a : Fin 2) (j : Fin 2048) :
    blk0Of V c t (laneIx a j) = V c main_v4_0 (binIx (rowAt t a) j) := by
  refine congrArg (V c main_v4_0) (funext fun b => Fin.ext ?_)
  blk_simp
  match b with
  | ⟨0, _⟩ => exact congrArg (fun n => n * 2 + a.val) (idx0 t)
  | ⟨1, _⟩ => show 0 * 16 + j.val / 128 = j.val / 128; omega
  | ⟨2, _⟩ => show 0 * 128 + j.val % 128 = j.val % 128; omega

theorem blk1_apply (c : Dev nD) (t : Fin cfg1.N) (a : Fin 2) (j : Fin 2048) :
    blk1Of V c t (laneIx a j) = V c main_v4_1 (binIx (rowAt t a) j) := by
  refine congrArg (V c main_v4_1) (funext fun b => Fin.ext ?_)
  blk_simp
  match b with
  | ⟨0, _⟩ => exact congrArg (fun n => n * 2 + a.val) (idx1 t)
  | ⟨1, _⟩ => show 0 * 16 + j.val / 128 = j.val / 128; omega
  | ⟨2, _⟩ => show 0 * 128 + j.val % 128 = j.val % 128; omega

theorem blk2_apply (c : Dev nD) (t : Fin cfg1.N) (a : Fin 2) (j : Fin 2048) (y : Fin 512) :
    blk2Of V c t (ValueIdx.ix3 a j y) = V c main_arg0 (ValueIdx.ix3 (n0 := 16) (n1 := 2048) (n2 := 512) (rowAt t a) j y) := by
  refine congrArg (V c main_arg0) (funext fun b => Fin.ext ?_)
  blk_simp
  match b with
  | ⟨0, _⟩ => exact congrArg (fun n => n * 2 + a.val) (idx2 t)
  | ⟨1, _⟩ => show 0 * 2048 + j.val = j.val; omega
  | ⟨2, _⟩ => show 0 * 512 + y.val = y.val; omega

/-! ### The result -/

/-- The result's array, as the sum at each element. -/
def sums (c : Dev nD) : S16x2048x512.Idx → EReal := fun z =>
  Ref.total (m (xLoc c)) (m (etLoc c)) (m (ptLoc c)) (m (ebLoc c)) (m (pbLoc c)) (m (teLoc c)) (m (tpLoc c)) (z 0) (z 1) (z 2)

theorem V1_arg (c : Dev nD) (b : Ref sig .tc) (h0 : b ≠ main_v4_0) (h1 : b ≠ main_v4_1) (k0 : b ≠ main_v0) (k1 : b ≠ main_v1)
    (k2 : b ≠ main_v2) (k3 : b ≠ main_v3) : V1 m c b = m ((c : Thread nD τ).loc b) :=
  (V1_ne m c b h0 h1).trans (VH_ne m c b k0 k1 k2 k3)

/-- What the kernel stores at a grid point is the sums' block. -/
theorem outB_apply (c : Dev nD) (g : Good m c) (t : Fin cfg1.N) (a : Fin 2) (j : Fin 2048) (y : Fin 512) :
    (outB (V1 m) c t (ValueIdx.ix3 a j y) : EReal) = sums m c (ValueIdx.ix3 (n0 := 16) (n1 := 2048) (n2 := 512) (rowAt t a) j y) := by
  have he := (blk0_apply (V1 m) c t a j).trans ((congrFun (V1_e m c) _).trans (eRes_apply m c g (rowAt t a) j))
  have hp := (blk1_apply (V1 m) c t a j).trans ((congrFun (V1_p m c) _).trans (pRes_apply m c g (rowAt t a) j))
  have hx := (blk2_apply (V1 m) c t a j y).trans (congrFun (V1_arg m c main_arg0 (by decide) (by decide) (by decide) (by decide) (by decide) (by decide)) _)
  have ht5 := V1_arg m c main_arg5 (by decide) (by decide) (by decide) (by decide) (by decide) (by decide)
  have ht6 := V1_arg m c main_arg6 (by decide) (by decide) (by decide) (by decide) (by decide) (by decide)
  have hk := pay3_apply (blk0Of (V1 m) c t) (blk1Of (V1 m) c t) (stk (V1 m) c) (blk2Of (V1 m) c t) a j y _ _ he hp
  have hlo := (stack_lo (V1 m c main_arg5) (V1 m c main_arg6)
    (Ref.rowOf (m (ebLoc c)) ((m (etLoc c) : S16x2048.Idx → EReal) (ValueIdx.ix2 (rowAt t a) j))) y).trans (congrFun ht5 _)
  have hhi := (stack_hi (V1 m c main_arg5) (V1 m c main_arg6)
    (Ref.rowOf (m (pbLoc c)) ((m (ptLoc c) : S16x2048.Idx → EReal) (ValueIdx.ix2 (rowAt t a) j))) y).trans (congrFun ht6 _)
  refine Eq.trans hk ?_
  refine Eq.trans (congrArg₂ (fun u w : EReal => u + w) hx (congrArg₂ (fun u w : EReal => u + w) hlo hhi)) ?_
  exact (add_assoc _ _ _).symm

/-- The result's array after the run. -/
theorem outA_eq (c : Dev nD) (g : Good m c) : outA (V1 m) c = sums m c := by
  unfold outA
  refine (dat (V1 m) c).arrAt_eq_of_covers 5 (sums m c) (by decide +kernel) fun t hf y => ?_
  blk_simp
  refine Eq.trans (show _ = (outB (V1 m) c t (ValueIdx.ix3 (n0 := 2) (n1 := 2048) (n2 := 512) (y 0) (y 1) (y 2)) : EReal) from ?_)
    ((outB_apply m c g t (y 0) (y 1) (y 2)).trans ?_)
  · rfl
  · refine congrArg (sums m c) (funext fun b => Fin.ext ?_)
    blk_simp
    match b with
    | ⟨0, _⟩ => exact congrArg (fun n => n * 2 + (y 0).val) (idx5 t).symm
    | ⟨1, _⟩ => show (y 1).val = 0 * 2048 + (y 1).val; omega
    | ⟨2, _⟩ => show (y 2).val = 0 * 512 + (y 2).val; omega

end Cert.Proof.Sc
end
-- ==== Proof.lean ====
/- The proof of the certificate's claims: the frames of the kernel, of its idealization and of the reference, and that the
   idealization and the reference return the same sums. -/
module

public import proofs.«01_k».proof.Defs
public import proofs.«01_k».proof.Proof.Frames
public import proofs.«01_k».proof.Proof.RefFrame
public import proofs.«01_k».proof.Proof.Grid
public import proofs.«01_k».proof.Proof.Equation
public import proofs.«01_k».proof.Proof.Gen.Pre_on_grid

@[expose] public section

noncomputable section

namespace Cert.Proof

open Idealize.ShloMosaic Idealize.ShloMosaic.TcCoe Idealize.SL

/-- The precondition of the kernel's arguments gives what the bins need. -/
theorem good_of_pre (m : (ℓ : Loc Cert.KernelIdeal.nD Cert.KernelIdeal.τ Cert.KernelIdeal.sig) → Buf (Elt Ideal) ℓ)
    (h : Cert.Pre_KernelIdeal_on_grid (hPre_on_grid := Cert.Pre_on_grid.Gen.facts) m) (c : Dev Cert.KernelIdeal.nD) : Sc.Good m c := by
  obtain ⟨h1, h2, h3, h4⟩ := Sc.of_pre _ _ _ _ _ _ _ (h c)
  exact ⟨h1, h2, h3, h4⟩

/-- The idealized kernel and the reference end with equal results. -/
theorem algebraic : Cert.algebraic_KernelIdeal_ReferenceIdeal_pre_on_grid (hKernelIdeal := Cert.KernelIdeal.Gen.facts)
    (hReferenceIdeal := Cert.ReferenceIdeal.Gen.facts) (hPre_on_grid := Cert.Pre_on_grid.Gen.facts) := by
  intro m g m' g' hpre hargs
  refine ⟨fun c => Sc.sums m c, ?_, ?_⟩
  · refine (θ_run Cert.KernelIdeal.defs _ _).mono (fun r h c => ?_) (Sc.run_main (F := Ideal) m g)
    obtain ⟨h0, h1, h2, h3, h4, h5, h6, h7⟩ := h.1 c
    exact ⟨h7.trans (Sc.outA_eq m c (good_of_pre m hpre c)), h0, h1, h2, h3, h4, h5, h6⟩
  · refine (θ_run Cert.ReferenceIdeal.defs _ _).mono (fun r h c => ⟨(h c).1.trans ?_, (h c).2⟩) (Cert.ReferenceIdeal.Value.run (F := Ideal) m' g')
    obtain ⟨a0, a1, a2, a3, a4, a5, a6⟩ := hargs c
    funext z
    have hz := ValueIdx.eq_ix3 (n0 := 16) (n1 := 2048) (n2 := 512) z
    refine (congrArg (Cert.ReferenceIdeal.Value.res_main_v17 m' c) hz).trans ((Ref.res_apply m' c (z 0) (z 1) (z 2)).trans ?_)
    rw [a0, a1, a2, a3, a4, a5, a6]
    rfl

/-- `Cert.Claim`: the frames, that the idealization rewrites nothing, and the equal results. -/
theorem claim : Cert.Claim :=
  ⟨Cert.Kernel.Gen.facts, Cert.KernelIdeal.Gen.facts, Cert.ReferenceIdeal.Gen.facts, Cert.Pre_on_grid.Gen.facts,
    Sc.frame_kernel, Sc.frame_kernelIdeal, fun m g _ => Sc.frame_kernelIdeal m g trivial,
    frame_referenceIdeal, fun m g _ => frame_referenceIdeal m g trivial, trivial, algebraic⟩

end Cert.Proof

end
